-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![2048, 16, 8, 128]⟩ (Layout.meshBlock [2, 4, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![2048, 16, 8, 128]⟩ (Layout.meshBlock [2, 4, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  reducesTo_S8x512_S_d0_1 : S8x512.ReducesTo [0, 1] S_
  h_S_ : 0 < S_.numel
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  bcast_S_S512x16x8x128 : S_.BroadcastsInDim S512x16x8x128 (![] : Fin 0 → Fin S512x16x8x128.rank)
  reducesTo_S512x16x8x128_S_d0_1_2_3 : S512x16x8x128.ReducesTo [0, 1, 2, 3] S_
  bcast_S_S8 : S_.BroadcastsInDim S8 (![] : Fin 0 → Fin S8.rank)
  reducesTo_S8_S_d0 : S8.ReducesTo [0] S_

variable [Facts]

def fn_where {F : FTy → Type} [FloatOps F] (arg0 : IVec S8x512 1) (arg1 : IVec S8x512 1) (arg2 : IVec S_ 1) : IVec S8x512 1 :=
  let v0 : IVec S8x512 1 := broadcastInDim S8x512 ![] bcast_S_S8x512 arg2
  let v1 : IVec S8x512 1 := select arg0 arg1 v0
  v1

def fn_part1 {F : FTy → Type} [FloatOps F] (main_arg4 : IVec S8 32) (main_v12 : IVec S_ 1) (main_v16 : IVec S_ 1) (main_v17 : FVec F S512x16x8x128 .f32) : IVec S_ 1 :=
  let main_cst_4 : FVec F S_ .f32 := constant S_ .f32 0x7F800000#32
  let main_v18 : FVec F S512x16x8x128 .f32 := broadcastInDim S512x16x8x128 ![] bcast_S_S512x16x8x128 main_cst_4
  let main_v19 : IVec S512x16x8x128 1 := cmpf .olt main_v17 main_v18
  let main_c_5 : IVec S_ 1 := constantI S_ 1 1#1
  let main_v20 : IVec S_ 1 := (fun x v => Host.reduce IntOp.andi x v reducesTo_S512x16x8x128_S_d0_1_2_3 h_S_) main_v19 main_c_5
  let main_v21 : IVec S_ 1 := andi main_v16 main_v20
  let main_c_6 : IVec S_ 32 := constantI S_ 32 1#32
  let main_v22 : IVec S8 32 := broadcastInDim S8 ![] bcast_S_S8 main_c_6
  let main_v23 : IVec S8 1 := cmpi .sge main_arg4 main_v22
  let main_c_7 : IVec S_ 1 := constantI S_ 1 1#1
  let main_v24 : IVec S_ 1 := (fun x v => Host.reduce IntOp.andi x v reducesTo_S8_S_d0 h_S_) main_v23 main_c_7
  let main_v25 : IVec S_ 1 := andi main_v12 main_v24
  let main_v26 : IVec S_ 1 := andi main_v25 main_v21
  main_v26

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S_ 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_c : IVec S_ 32 := constantI S_ 32 0#32
  let main_v6 : IVec S8x512 32 := broadcastInDim S8x512 ![] bcast_S_S8x512 main_c
  let main_v7 : IVec S8x512 1 := cmpi .sge main_arg3 main_v6
  let main_c_0 : IVec S_ 32 := constantI S_ 32 2048#32
  let main_v8 : IVec S8x512 32 := broadcastInDim S8x512 ![] bcast_S_S8x512 main_c_0
  let main_v9 : IVec S8x512 1 := cmpi .slt main_arg3 main_v8
  let main_v10 : IVec S8x512 1 := andi main_v7 main_v9
  let main_c_1 : IVec S_ 1 := constantI S_ 1 1#1
  let main_v11 : IVec S8x512 1 := fn_where (F := F) main_v5 main_v10 main_c_1
  let main_c_2 : IVec S_ 1 := constantI S_ 1 1#1
  let main_v12 : IVec S_ 1 := (fun x v => Host.reduce IntOp.andi x v reducesTo_S8x512_S_d0_1 h_S_) main_v11 main_c_2
  let main_v13 : FVec F S8x1x8x128 .f32 := Host.absf main_arg0
  let main_cst : FVec F S_ .f32 := constant S_ .f32 0x7F800000#32
  let main_v14 : FVec F S8x1x8x128 .f32 := broadcastInDim S8x1x8x128 ![] bcast_S_S8x1x8x128 main_cst
  let main_v15 : IVec S8x1x8x128 1 := cmpf .olt main_v13 main_v14
  let main_c_3 : IVec S_ 1 := constantI S_ 1 1#1
  let main_v16 : IVec S_ 1 := (fun x v => Host.reduce IntOp.andi x v reducesTo_S8x1x8x128_S_d0_1_2_3 h_S_) main_v15 main_c_3
  let main_v17 : FVec F S512x16x8x128 .f32 := Host.absf main_arg1
  fn_part1 (F := F) main_arg4 main_v12 main_v16 main_v17
-- ==== Pre_well_posed_ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  reducesTo_S8x512_S_d0_1 : S8x512.ReducesTo [0, 1] S_
  h_S_ : 0 < S_.numel
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  bcast_S_S2048x16x8x128 : S_.BroadcastsInDim S2048x16x8x128 (![] : Fin 0 → Fin S2048x16x8x128.rank)
  reducesTo_S2048x16x8x128_S_d0_1_2_3 : S2048x16x8x128.ReducesTo [0, 1, 2, 3] S_
  bcast_S_S8 : S_.BroadcastsInDim S8 (![] : Fin 0 → Fin S8.rank)
  reducesTo_S8_S_d0 : S8.ReducesTo [0] S_

variable [Facts]

def fn_where {F : FTy → Type} [FloatOps F] (arg0 : IVec S8x512 1) (arg1 : IVec S8x512 1) (arg2 : IVec S_ 1) : IVec S8x512 1 :=
  let v0 : IVec S8x512 1 := broadcastInDim S8x512 ![] bcast_S_S8x512 arg2
  let v1 : IVec S8x512 1 := select arg0 arg1 v0
  v1

def fn_part1 {F : FTy → Type} [FloatOps F] (main_arg4 : IVec S8 32) (main_v12 : IVec S_ 1) (main_v16 : IVec S_ 1) (main_v17 : FVec F S2048x16x8x128 .f32) : IVec S_ 1 :=
  let main_cst_4 : FVec F S_ .f32 := constant S_ .f32 0x7F800000#32
  let main_v18 : FVec F S2048x16x8x128 .f32 := broadcastInDim S2048x16x8x128 ![] bcast_S_S2048x16x8x128 main_cst_4
  let main_v19 : IVec S2048x16x8x128 1 := cmpf .olt main_v17 main_v18
  let main_c_5 : IVec S_ 1 := constantI S_ 1 1#1
  let main_v20 : IVec S_ 1 := (fun x v => Host.reduce IntOp.andi x v reducesTo_S2048x16x8x128_S_d0_1_2_3 h_S_) main_v19 main_c_5
  let main_v21 : IVec S_ 1 := andi main_v16 main_v20
  let main_c_6 : IVec S_ 32 := constantI S_ 32 1#32
  let main_v22 : IVec S8 32 := broadcastInDim S8 ![] bcast_S_S8 main_c_6
  let main_v23 : IVec S8 1 := cmpi .sge main_arg4 main_v22
  let main_c_7 : IVec S_ 1 := constantI S_ 1 1#1
  let main_v24 : IVec S_ 1 := (fun x v => Host.reduce IntOp.andi x v reducesTo_S8_S_d0 h_S_) main_v23 main_c_7
  let main_v25 : IVec S_ 1 := andi main_v12 main_v24
  let main_v26 : IVec S_ 1 := andi main_v25 main_v21
  main_v26

def fn {F : FTy → Type} [FloatOps F] (main_arg0 : FVec F S8x1x8x128 .f32) (main_arg1 : FVec F S2048x16x8x128 .f32) (main_arg2 : FVec F S2048x16x8x128 .f32) (main_arg3 : IVec S8x512 32) (main_arg4 : IVec S8 32) : IVec S_ 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_c : IVec S_ 32 := constantI S_ 32 0#32
  let main_v6 : IVec S8x512 32 := broadcastInDim S8x512 ![] bcast_S_S8x512 main_c
  let main_v7 : IVec S8x512 1 := cmpi .sge main_arg3 main_v6
  let main_c_0 : IVec S_ 32 := constantI S_ 32 2048#32
  let main_v8 : IVec S8x512 32 := broadcastInDim S8x512 ![] bcast_S_S8x512 main_c_0
  let main_v9 : IVec S8x512 1 := cmpi .slt main_arg3 main_v8
  let main_v10 : IVec S8x512 1 := andi main_v7 main_v9
  let main_c_1 : IVec S_ 1 := constantI S_ 1 1#1
  let main_v11 : IVec S8x512 1 := fn_where (F := F) main_v5 main_v10 main_c_1
  let main_c_2 : IVec S_ 1 := constantI S_ 1 1#1
  let main_v12 : IVec S_ 1 := (fun x v => Host.reduce IntOp.andi x v reducesTo_S8x512_S_d0_1 h_S_) main_v11 main_c_2
  let main_v13 : FVec F S8x1x8x128 .f32 := Host.absf main_arg0
  let main_cst : FVec F S_ .f32 := constant S_ .f32 0x7F800000#32
  let main_v14 : FVec F S8x1x8x128 .f32 := broadcastInDim S8x1x8x128 ![] bcast_S_S8x1x8x128 main_cst
  let main_v15 : IVec S8x1x8x128 1 := cmpf .olt main_v13 main_v14
  let main_c_3 : IVec S_ 1 := constantI S_ 1 1#1
  let main_v16 : IVec S_ 1 := (fun x v => Host.reduce IntOp.andi x v reducesTo_S8x1x8x128_S_d0_1_2_3 h_S_) main_v15 main_c_3
  let main_v17 : FVec F S2048x16x8x128 .f32 := Host.absf main_arg1
  fn_part1 (F := F) main_arg4 main_v12 main_v16 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x8x256 : Shape := ⟨3, ![8, 8, 256]⟩
abbrev S3x8x8x256 : Shape := ⟨4, ![3, 8, 8, 256]⟩
abbrev S512x16x128 : Shape := ⟨3, ![512, 16, 128]⟩
abbrev S2 : Shape := ⟨1, ![2]⟩
abbrev S3 : Shape := ⟨1, ![3]⟩
abbrev S_ : Shape := ⟨0, ![]⟩
abbrev S8x1x512 : Shape := ⟨3, ![8, 1, 512]⟩
abbrev S1x512x1 : Shape := ⟨3, ![1, 512, 1]⟩
abbrev S1x1x512 : Shape := ⟨3, ![1, 1, 512]⟩
abbrev S8x1x1 : Shape := ⟨3, ![8, 1, 1]⟩
abbrev S8x512x512 : Shape := ⟨3, ![8, 512, 512]⟩
abbrev S8192x1 : Shape := ⟨2, ![8192, 1]⟩
abbrev S1x512 : Shape := ⟨2, ![1, 512]⟩
abbrev S8192x512 : Shape := ⟨2, ![8192, 512]⟩
abbrev S8x8192 : Shape := ⟨2, ![8, 8192]⟩
abbrev S8x8x128 : Shape := ⟨3, ![8, 8, 128]⟩
abbrev S1 : Shape := ⟨1, ![1]⟩
abbrev S512x16x1x128 : Shape := ⟨4, ![512, 16, 1, 128]⟩
abbrev S8192x128 : Shape := ⟨2, ![8192, 128]⟩
abbrev S8x1x128 : Shape := ⟨3, ![8, 1, 128]⟩
abbrev S8x128 : Shape := ⟨2, ![8, 128]⟩
abbrev S8x1 : Shape := ⟨2, ![8, 1]⟩
abbrev S1x8x8x256 : Shape := ⟨4, ![1, 8, 8, 256]⟩
abbrev S8x8x1 : Shape := ⟨3, ![8, 8, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8, .i32⟩
  | .local _ .vmem, ⟨3, _⟩ => ⟨S8x1x8x128, .f32⟩
  | .local _ .vmem, ⟨4, _⟩ => ⟨S8x8x256, .f32⟩
  | .local _ .vmem, ⟨5, _⟩ => ⟨S3x8x8x256, .f32⟩
  | .local _ .vmem, ⟨6, _⟩ => ⟨S512x16x128, .f32⟩
  | .local _ .vmem, ⟨7, _⟩ => ⟨S512x16x128, .f32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_18 : BitVec 32 := 4#32
  let v34 : BitVec 32 := Scalar.muli v19 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v36 : BitVec 32 := Scalar.muli v8 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_23 : BitVec 32 := 4#32
  let v40 : BitVec 32 := Scalar.muli v30 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_355 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_354 : BitVec 32 := 16#32
  let v449 : BitVec 32 := Scalar.muli v2 c16_i32_354
  let v450 : BitVec 32 := Scalar.addi c0_i32_355 v449
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_356 : BitVec 32 := 4#32
  let v451 : BitVec 32 := Scalar.muli v30 c4_i32_356
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v453 : BitVec 32 := Scalar.muli v8 c1_i32_357
  let v454 : BitVec 32 := Scalar.addi v452 v453
  v454.toNat
def k0_dev4 (d0 : Dev nD) : Nat :=
  let c0_i32_383 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_382 : BitVec 32 := 16#32
  let v475 : BitVec 32 := Scalar.muli v2 c16_i32_382
  let v476 : BitVec 32 := Scalar.addi c0_i32_383 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_384 : BitVec 32 := 4#32
  let v477 : BitVec 32 := Scalar.muli v30 c4_i32_384
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v479 : BitVec 32 := Scalar.muli v8 c1_i32_385
  let v480 : BitVec 32 := Scalar.addi v478 v479
  v480.toNat
def k0_dev5 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_421 : BitVec 32 := 16#32
  let v507 : BitVec 32 := Scalar.muli v2 c16_i32_421
  let v508 : BitVec 32 := Scalar.addi c0_i32_422 v507
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_423 : BitVec 32 := 4#32
  let v509 : BitVec 32 := Scalar.muli v30 c4_i32_423
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v511 : BitVec 32 := Scalar.muli v8 c1_i32_424
  let v512 : BitVec 32 := Scalar.addi v510 v511
  v512.toNat
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8x1x512x16 : Shape := ⟨5, ![8, 8, 1, 512, 16]⟩
abbrev S512 : Shape := ⟨1, ![512]⟩
abbrev S1x512 : Shape := ⟨2, ![1, 512]⟩
abbrev S8x1 : Shape := ⟨2, ![8, 1]⟩
abbrev S8x1x1x512x1 : Shape := ⟨5, ![8, 1, 1, 512, 1]⟩
abbrev S8x8x1 : Shape := ⟨3, ![8, 8, 1]⟩
abbrev S8x8x1x1x1 : Shape := ⟨5, ![8, 8, 1, 1, 1]⟩
abbrev S8x8x128x1 : Shape := ⟨4, ![8, 8, 128, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S2048x16x8x128, .f32⟩
  | .hbm, ⟨2, _⟩ => ⟨S2048x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S_, .i32⟩
  | .hbm, ⟨15, _⟩ => ⟨S8x512, .i32⟩
  | .hbm, ⟨16, _⟩ => ⟨S8x512, .i1⟩
  | .hbm, ⟨17, _⟩ => ⟨S_, .i32⟩
  | .hbm, ⟨18, _⟩ => ⟨S8x512, .i32⟩
  | .hbm, ⟨19, _⟩ => ⟨S8x512, .i32⟩
  | .hbm, ⟨20, _⟩ => ⟨S8x512, .i32⟩
  | .hbm, ⟨21, _⟩ => ⟨S8x512x1, .i32⟩
  | .hbm, ⟨22, _⟩ => ⟨S8x512x16x8x128, .f32⟩
  | .hbm, ⟨23, _⟩ => ⟨S8x8x1x512x16, .f32⟩
  | .hbm, ⟨24, _⟩ => ⟨S_, .f32⟩
  | .hbm, ⟨25, _⟩ => ⟨S_, .f32⟩
  | .hbm, ⟨26, _⟩ => ⟨S8x8x1x512x16, .f32⟩
  | .hbm, ⟨27, _⟩ => ⟨S8x8x1x512x16, .f32⟩
  | .hbm, ⟨28, _⟩ => ⟨S512, .i32⟩
  | .hbm, ⟨29, _⟩ => ⟨S1x512, .i32⟩
  | .hbm, ⟨30, _⟩ => ⟨S8x1, .i32⟩
  | .hbm, ⟨31, _⟩ => ⟨S8x512, .i32⟩
  | .hbm, ⟨32, _⟩ => ⟨S8x512, .i32⟩
  | .hbm, ⟨33, _⟩ => ⟨S8x512, .i1⟩
  | .hbm, ⟨34, _⟩ => ⟨S8x1x1x512x1, .i1⟩
  | .hbm, ⟨35, _⟩ => ⟨S_, .f32⟩
  | .hbm, ⟨36, _⟩ => ⟨S_, .f32⟩
  | .hbm, ⟨37, _⟩ => ⟨S8x8x1x512x16, .i1⟩
  | .hbm, ⟨38, _⟩ => ⟨S8x8x1x512x16, .f32⟩
  | .hbm, ⟨39, _⟩ => ⟨S8x8x1x512x16, .f32⟩
  | .hbm, ⟨40, _⟩ => ⟨S_, .f32⟩
  | .hbm, ⟨41, _⟩ => ⟨S8x8x1, .f32⟩
  | .hbm, ⟨42, _⟩ => ⟨S8x8x1x1x1, .f32⟩
  | .hbm, ⟨43, _⟩ => ⟨S8x8x1x512x16, .f32⟩
  | .hbm, ⟨44, _⟩ => ⟨S8x8x1x512x16, .f32⟩
  | .hbm, ⟨45, _⟩ => ⟨S8x8x1x512x16, .f32⟩
  | .hbm, ⟨46, _⟩ => ⟨S_, .f32⟩
  | .hbm, ⟨47, _⟩ => ⟨S8x8x1, .f32⟩
  | .hbm, ⟨48, _⟩ => ⟨S8x8x1x1x1, .f32⟩
  | .hbm, ⟨49, _⟩ => ⟨S8x8x1x512x16, .f32⟩
  | .hbm, ⟨50, _⟩ => ⟨S8x8x1x512x16, .f32⟩
  | .hbm, ⟨51, _⟩ => ⟨S8x8x128x1, .f32⟩
  | .hbm, ⟨52, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.RingIdeal.lean ====
/-
# `RingIdeal`: the ring protocol of the kernel, stated once for any float values

Thirty-two devices form a mesh of 2 × 4 × 4; the kernel exchanges along the middle axis only, so there are eight rings
of four devices. On each device:

* a barrier cell (a counting semaphore the launch does not scope) that both ring neighbours raise by one unit. The right
  neighbour's unit hands over that neighbour's three landing slots; the left neighbour's unit hands over nothing;
* per step `k = 0, 1, 2` a send cell and a receive cell. The copy of step `k` reads the device's own partial result
  (`k = 0`) or the slot filled by the step before, and fills slot `k` of the right neighbour. The send cell returns the
  source, the receive cell delivers the slot.

A slot holds, per query row and head, 128 lanes of an unnormalised output, then the row's maximum and the row's sum. The
lanes after that are never written, so the payloads fix the first 130 lanes only (`Good`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 ix4)

variable {F : FTy → Type} [FloatOps F] [Named F]

/-! ## The resource algebra: the staging cells' rounds, the ring's rounds, the local copies' counters -/

/-- The ring's rounds: duties are named by a Boolean. -/
abbrev UB : Type := URounds (GSem nD τ sig) Bool
/-- The whole user algebra. -/
abbrev UU : Type := UR sig nD τ × (UB × Counters)

local notation "𝕄" => MT nD τ sig Unit (Elt F) ℕ UU ℕ

/-- Where the staging cells' rounds live. -/
abbrev EP : Emb (UR sig nD τ) (MT nD τ sig Unit (Elt F) ℕ UU ℕ) := embL
/-- Where the ring's rounds live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The rings -/

/-- The right neighbour: one further along the middle mesh axis. -/
def rgt (c : Dev nD) : Dev nD := ⟨c.val / 16 * 16 + (c.val / 4 % 4 + 1) % 4 * 4 + c.val % 4, by
  have := c.isLt; simp only [nD] at this ⊢; omega⟩
/-- The left neighbour. -/
def lft (c : Dev nD) : Dev nD := ⟨c.val / 16 * 16 + (c.val / 4 % 4 + 3) % 4 * 4 + c.val % 4, by
  have := c.isLt; simp only [nD] at this ⊢; omega⟩

theorem lft_rgt (c : Dev nD) : lft (rgt c) = c := by revert c; decide +kernel
theorem rgt_lft (c : Dev nD) : rgt (lft c) = c := by revert c; decide +kernel

/-- The first signal goes to the left neighbour, the second to the right one, the three copies to the right one. -/
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = rgt c := by revert c; decide +kernel
theorem dev4_eq (c : Dev nD) : (⟨k0_dev4 c, k0_dev4_lt c⟩ : Dev nD) = rgt c := by revert c; decide +kernel
theorem dev5_eq (c : Dev nD) : (⟨k0_dev5 c, k0_dev5_lt c⟩ : Dev nD) = rgt c := by revert c; decide +kernel

/-- Going round, as a permutation of the devices. -/
def ring : Dev nD ≃ Dev nD := ⟨rgt, lft, lft_rgt, rgt_lft⟩

/-- `k` places to the left. -/
def back : ℕ → Dev nD → Dev nD
  | 0, c => c
  | k + 1, c => lft (back k c)
theorem back_rgt (k : ℕ) (c : Dev nD) : back (k + 1) (rgt c) = back k c := by
  induction k with
  | zero => exact lft_rgt c
  | succ k ih => exact congrArg lft ih

/-! ## The buffers and the cells -/

/-- The partial result. -/
abbrev pM : Memref sig .tc .vmem S8x8x256 .f32 := Memref.whole cc0_scratch0
/-- The three landing slots together. -/
abbrev gW : Memref sig .tc .vmem S3x8x8x256 .f32 := Memref.whole cc0_scratch1
/-- The box of slot 0, 1, 2 in the gather buffer. -/
abbrev gR : Fin 3 → Rect S3x8x8x256
  | 0 => Rect.unit (s := S3x8x8x256) ![0, 0, 0, 0] S1x8x8x256.size inb_S3x8x8x256_S1x8x8x256_0_0_0_0
  | 1 => Rect.unit (s := S3x8x8x256) ![1, 0, 0, 0] S1x8x8x256.size inb_S3x8x8x256_S1x8x8x256_1_0_0_0
  | 2 => Rect.unit (s := S3x8x8x256) ![2, 0, 0, 0] S1x8x8x256.size inb_S3x8x8x256_S1x8x8x256_2_0_0_0
/-- Slot 0, 1, 2 of the gather buffer, the leading unit axis dropped. -/
abbrev gM : Fin 3 → Memref sig .tc .vmem S8x8x256 .f32
  | 0 => (gW.slice (Rect.unit (s := S3x8x8x256) ![0, 0, 0, 0] S1x8x8x256.size inb_S3x8x8x256_S1x8x8x256_0_0_0_0) (fun _ => rfl)).squeeze S8x8x256 squeezes_S1x8x8x256_S8x8x256
  | 1 => (gW.slice (Rect.unit (s := S3x8x8x256) ![1, 0, 0, 0] S1x8x8x256.size inb_S3x8x8x256_S1x8x8x256_1_0_0_0) (fun _ => rfl)).squeeze S8x8x256 squeezes_S1x8x8x256_S8x8x256
  | 2 => (gW.slice (Rect.unit (s := S3x8x8x256) ![2, 0, 0, 0] S1x8x8x256.size inb_S3x8x8x256_S1x8x8x256_2_0_0_0) (fun _ => rfl)).squeeze S8x8x256 squeezes_S1x8x8x256_S8x8x256
/-- What step `k` copies from. -/
abbrev sM : Fin 3 → Memref sig .tc .vmem S8x8x256 .f32
  | 0 => pM
  | 1 => gM 0
  | 2 => gM 1

/-- The barrier semaphore. -/
abbrev barS : Sem sig := (SemArray.scalar (sig.barrier 0 rfl) : Sems sig S_).sem
/-- The two semaphores of the local copies. -/
abbrev copyS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem
/-- The send semaphores. -/
abbrev sendS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem
/-- The receive semaphores. -/
abbrev recvS : Fin 3 → DmaSem sig
  | 0 => ((cc0_scratch6.slice (Rect.unit (s := S3) ![0] S1.size inb_S3_S1_0)).squeeze S_ squeezes_S1_S_).sem
  | 1 => ((cc0_scratch6.slice (Rect.unit (s := S3) ![1] S1.size inb_S3_S1_1)).squeeze S_ squeezes_S1_S_).sem
  | 2 => ((cc0_scratch6.slice (Rect.unit (s := S3) ![2] S1.size inb_S3_S1_2)).squeeze S_ squeezes_S1_S_).sem

abbrev barCell (c : Dev nD) : GSem nD τ sig := ((c : Thread nD τ), .reg barS)
abbrev copyCell (k : Fin 2) (c : Dev nD) : GSem nD τ sig := ((c : Thread nD τ), .dma (copyS k))
abbrev sendCell (k : Fin 3) (c : Dev nD) : GSem nD τ sig := ((c : Thread nD τ), .dma (sendS k))
abbrev recvCell (k : Fin 3) (c : Dev nD) : GSem nD τ sig := ((c : Thread nD τ), .dma (recvS k))

/-- The kernel's own semaphores: two of the local copies, three sends, three receives. -/
abbrev osem : Fin 8 → SemLoc sig := fun
  | 0 => .dma (copyS 0) | 1 => .dma (copyS 1) | 2 => .dma (sendS 0) | 3 => .dma (sendS 1) | 4 => .dma (sendS 2)
  | 5 => .dma (recvS 0) | 6 => .dma (recvS 1) | 7 => .dma (recvS 2)
/-- The ring's semaphores: the barrier, three sends, three receives. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- The credit of one slot. -/
abbrev N : ℕ := (pM : Memref sig .tc .vmem S8x8x256 .f32).view.dmaCredit
theorem N_pos : 0 < N := View.dmaCredit_pos _ (by decide)

/-- Which step's send semaphore a semaphore is, if any; -/
def sendIdx (s : SemLoc sig) : Option (Fin 3) :=
  if s = .dma (sendS 0) then some 0 else if s = .dma (sendS 1) then some 1 else if s = .dma (sendS 2) then some 2 else none
/-- and which step's receive semaphore. -/
def recvIdx (s : SemLoc sig) : Option (Fin 3) :=
  if s = .dma (recvS 0) then some 0 else if s = .dma (recvS 1) then some 1 else if s = .dma (recvS 2) then some 2 else none

theorem sendIdx_send (k : Fin 3) : sendIdx (.dma (sendS k)) = some k := by revert k; decide +kernel
theorem recvIdx_recv (k : Fin 3) : recvIdx (.dma (recvS k)) = some k := by revert k; decide +kernel
theorem recvIdx_send (k : Fin 3) : recvIdx (.dma (sendS k)) = none := by revert k; decide +kernel
theorem recvIdx_copy (k : Fin 2) : recvIdx (.dma (copyS k)) = none := by revert k; decide +kernel
theorem recvIdx_bar : recvIdx (.reg barS) = none := by decide +kernel

/-! ## Contents -/

/-- The device's queries, page table and lengths, as the kernel's windows show them. -/
def qstg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg3))
def lstg (c : Dev nD) : (cc0_stg2_0 : Ref sig .tc).ty.Contents (Elt F) :=
  (win0_2.blk (0 : Fin 1)).view.read (Elt F) ((s₀ m ρ).mem ((c : Thread nD τ).loc main_arg4))

/-- The device's place on the middle axis, as the kernel computes it. -/
def yOf (c : Dev nD) : BitVec 32 := Scalar.remsi (Scalar.divsi (Dev.word c) 4#32) 4#32
/-- How often each page of the device's pool occurs in each table; -/
def cnt (c : Dev nD) : FVec F S8x512 .f32 := k0_pay2 (yOf c) (bstg m ρ c) (lstg m ρ c)
/-- the same per token; -/
def multOf (c : Dev nD) : FVec F S8x8192 .f32 :=
  k0_pay6 (cnt m ρ c) (iota .tc S8192x1 32 [0] iota_S8192x1_d0_w32) 16#32 k0_pay3 k0_pay4 k0_pay5
/-- which tokens occur at all; -/
def aliveOf (c : Dev nD) : IVec S8x8192 1 :=
  k0_pay7 (cnt m ρ c) (iota .tc S8192x1 32 [0] iota_S8192x1_d0_w32) 16#32 k0_pay3 k0_pay4 k0_pay5
/-- the scaled queries. -/
def qOf (c : Dev nD) : FVec F S8x8x128 .f32 := k0_pay8 (qstg m ρ c)

/-- One head of a device's page pool. -/
def headOf (f : S512x16x8x128.Idx → Elt F .f32) (h : Fin 8) : Vec F S512x16x128 .f32 :=
  fun i => f (ix4 (i 0) (i 1) h (i 2))
/-- One head of the device's keys and values. -/
def kOf (c : Dev nD) (h : Fin 8) : Vec F S512x16x128 .f32 := headOf ((s₀ m ρ).mem ((c : Thread nD τ).loc main_arg1)) h
def vOf (c : Dev nD) (h : Fin 8) : Vec F S512x16x128 .f32 := headOf ((s₀ m ρ).mem ((c : Thread nD τ).loc main_arg2)) h

/-! ### One head of the partial result -/

section Head
variable (mult : FVec F S8x8192 .f32) (alive : IVec S8x8192 1) (q : FVec F S8x8x128 .f32) (h : Fin 8) (k v : Vec F S512x16x128 .f32)

/-- Head `h` can be cut out of the queries. -/
theorem headSlices : S8x8x128.Slices ![0, h.val, 0] S8x1x128 := by revert h; decide

/-- The scores of head `h`, the dead tokens at the mask value; -/
def scoreOf : FVec F S8x8192 .f32 :=
  select alive (matmul dot_S8x128_S8192x128_S8x8192_1_1_0_0_n_n none
      (shapeCast S8x128 (extractStridedSlice S8x1x128 ![0, h.val, 0] q (headSlices h)) shapeCasts_S8x1x128_S8x128)
      (shapeCast S8192x128 k shapeCasts_S512x16x128_S8192x128) (constant S8x8192 .f32 0x00000000#32))
    (broadcast S8x8192 (Scalar.ofBits .f32 0xF149F2CA#32 : F .f32))
/-- their maximum per row; -/
def maxOf : FVec F S8x1 .f32 :=
  shapeCast S8x1 (multiReduction .maximumf [1] S8 (scoreOf alive q h k) 0xFF800000#32 reduces_S8x8192_S8 (.inl rfl) rfl) shapeCasts_S8_S8x1
/-- the weights: exponentials below the maximum, times how often the token occurs; -/
def wtOf : FVec F S8x8192 .f32 :=
  mulf (exp (subf (scoreOf alive q h k) (broadcastTo S8x8192 (maxOf alive q h k) broadcasts_S8x1_S8x8192))) mult
/-- the weights' sum per row; -/
def sumOf : FVec F S8x1 .f32 :=
  shapeCast S8x1 (multiReduction .add [1] S8 (wtOf mult alive q h k) 0x00000000#32 reduces_S8x8192_S8 (.inl rfl) rfl) shapeCasts_S8_S8x1
/-- the weighted values. -/
def accOf : FVec F S8x128 .f32 :=
  matmul dot_S8x8192_S8192x128_S8x128_1_0_0_1_n_n none (wtOf mult alive q h k) (shapeCast S8192x128 v shapeCasts_S512x16x128_S8192x128)
    (constant S8x128 .f32 0x00000000#32)

/-- What the kernel stores for head `h`: the weighted values, the maximum, the sum. -/
def oPay : FVec F S8x1x128 .f32 := shapeCast S8x1x128 (accOf mult alive q h k v) shapeCasts_S8x128_S8x1x128
def mPay : FVec F S8x1x1 .f32 := shapeCast S8x1x1 (maxOf alive q h k) shapeCasts_S8x1_S8x1x1
def lPay : FVec F S8x1x1 .f32 := shapeCast S8x1x1 (sumOf mult alive q h k) shapeCasts_S8x1_S8x1x1

end Head

/-- The partial result of device `c` on its first 130 lanes: lanes 0–127 the weighted values, 128 the maximum, the rest the sum. -/
def part (c : Dev nD) : S8x8x256.Idx → Elt F .f32 := fun i =>
  if hd : (i 2).val < 128 then oPay (multOf m ρ c) (aliveOf m ρ c) (qOf m ρ c) (i 1) (kOf m ρ c (i 1)) (vOf m ρ c (i 1)) (ix3 (i 0) 0 ⟨(i 2).val, hd⟩)
  else if (i 2).val = 128 then mPay (aliveOf m ρ c) (qOf m ρ c) (i 1) (kOf m ρ c (i 1)) (ix3 (i 0) 0 0)
  else lPay (multOf m ρ c) (aliveOf m ρ c) (qOf m ρ c) (i 1) (kOf m ρ c (i 1)) (ix3 (i 0) 0 0)

/-- A slot's value is device `d`'s partial result, on the lanes the kernel reads. -/
def Good (d : Dev nD) (f : S8x8x256.Idx → Elt F .f32) : Prop := ∀ i : S8x8x256.Idx, (i 2).val < 130 → f i = part m ρ d i

/-- The points-to of slot `k` on device `c`, -/
def gPts (k : Fin 3) (c : Dev nD) (f : Buf (Elt F) ((gM k).view.loc (c : Thread nD τ))) : sProp 𝕄 :=
  (gM k).view.loc (c : Thread nD τ) ↦[(gM k).view.set]{fullShare} f
/-- and of the source of step `k`. -/
def sPts (k : Fin 3) (c : Dev nD) (f : Buf (Elt F) ((sM k).view.loc (c : Thread nD τ))) : sProp 𝕄 :=
  (sM k).view.loc (c : Thread nD τ) ↦[(sM k).view.set]{fullShare} f

instance gPts_storable (k : Fin 3) (c : Dev nD) (f) : BI.Storable (upEmb : UEmb _ 𝕄) (gPts (F := F) k c f) := by unfold gPts; infer_instance
instance sPts_storable (k : Fin 3) (c : Dev nD) (f) : BI.Storable (upEmb : UEmb _ 𝕄) (sPts (F := F) k c f) := by unfold sPts; infer_instance

/-! ## The schedule -/

/-- What the right neighbour's unit on `c`'s barrier cell hands over: that neighbour's three slots. -/
def barPay (c : Dev nD) : sProp 𝕄 :=
  iprop((∃ f, gPts (F := F) 0 (rgt c) f) ∗ (∃ f, gPts (F := F) 1 (rgt c) f) ∗ (∃ f, gPts (F := F) 2 (rgt c) f))
/-- What step `k` delivers to `c`: its slot `k`, holding the partial result of the device `k + 1` places to the left. -/
def recvPay (k : Fin 3) (c : Dev nD) : sProp 𝕄 :=
  iprop(∃ f, ⌜Good m ρ (back (k.val + 1) c) ((gM k).view.read (Elt F) f)⌝ ∗ gPts (F := F) k c f)
/-- What step `k` returns to its sender: the source, unchanged. -/
def sendPay (k : Fin 3) (c : Dev nD) : sProp 𝕄 :=
  iprop(∃ f, ⌜Good m ρ (back k.val c) ((sM k).view.read (Elt F) f)⌝ ∗ sPts (F := F) k c f)

abbrev IsBar (g : GSem nD τ sig) : Prop := g.1.2 = .tc ∧ g.2 = .reg barS
abbrev IsXfer (g : GSem nD τ sig) : Prop := g.1.2 = .tc ∧ ((sendIdx g.2).isSome ∨ (recvIdx g.2).isSome)

/-- One round per cell. A barrier cell has two duties of one unit (`true` paid by the right neighbour, `false` by the
    left one), a send or receive cell the one duty `false` of a slot's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPay g.1.1 else iprop(emp))
    else match recvIdx g.2, sendIdx g.2 with
      | some k, _ => recvPay m ρ k g.1.1
      | none, some k => sendPay m ρ k g.1.1
      | none, none => iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := by
  show BI.Storable upEmb (if g.2 = .reg barS then (if d then barPay g.1.1 else iprop(emp)) else match recvIdx g.2, sendIdx g.2 with
      | some k, _ => recvPay m ρ k g.1.1
      | none, some k => sendPay m ρ k g.1.1
      | none, none => iprop(emp))
  unfold barPay recvPay sendPay
  (repeat' split) <;> infer_instance

section Sched
variable (k : Fin 3) (c : Dev nD)

theorem send_ne_bar : (SemLoc.dma (sendS k) : SemLoc sig) ≠ .reg barS := fun h => by cases h
theorem recv_ne_bar : (SemLoc.dma (recvS k) : SemLoc sig) ≠ .reg barS := fun h => by cases h

theorem duties_bar : (ringRd (F := F) m ρ).duties (barCell c) 0 = Finset.univ := by dsimp only [ringRd]; exact if_pos ⟨rfl, rfl, rfl⟩
theorem duties_send : (ringRd (F := F) m ρ).duties (sendCell k c) 0 = {false} := by
  dsimp only [ringRd]; rw [if_neg (fun h => send_ne_bar k h.2.2)]; exact if_pos ⟨rfl, rfl, .inl (by rw [sendIdx_send]; rfl)⟩
theorem duties_recv : (ringRd (F := F) m ρ).duties (recvCell k c) 0 = {false} := by
  dsimp only [ringRd]; rw [if_neg (fun h => recv_ne_bar k h.2.2)]; exact if_pos ⟨rfl, rfl, .inr (by rw [recvIdx_recv]; rfl)⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Bool) : (ringRd (F := F) m ρ).amount (barCell c) 0 d = 1 := by dsimp only [ringRd]; exact if_pos rfl
theorem amount_send (d : Bool) : (ringRd (F := F) m ρ).amount (sendCell k c) 0 d = N := by dsimp only [ringRd]; exact if_neg (send_ne_bar k)
theorem amount_recv (d : Bool) : (ringRd (F := F) m ρ).amount (recvCell k c) 0 d = N := by dsimp only [ringRd]; exact if_neg (recv_ne_bar k)

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell k c) 0 = N := by
  unfold Schedule.expect Schedule.amountOf; rw [duties_send, Finset.sum_singleton, amount_send]
theorem expect_recv : (ringRd (F := F) m ρ).expect (recvCell k c) 0 = N := by
  unfold Schedule.expect Schedule.amountOf; rw [duties_recv, Finset.sum_singleton, amount_recv]

theorem payload_bar_true : (ringRd (F := F) m ρ).payload (barCell c) 0 true = barPay c := by dsimp only [ringRd]; rw [if_pos rfl, if_pos rfl]
theorem payload_bar_false : (ringRd (F := F) m ρ).payload (barCell c) 0 false = iprop(emp) := by
  dsimp only [ringRd]; rw [if_pos rfl]; exact if_neg Bool.false_ne_true
theorem payload_send (d : Bool) : (ringRd (F := F) m ρ).payload (sendCell k c) 0 d = sendPay m ρ k c := by
  dsimp only [ringRd]; rw [if_neg (send_ne_bar k), recvIdx_send, sendIdx_send]
theorem payload_recv (d : Bool) : (ringRd (F := F) m ρ).payload (recvCell k c) 0 d = recvPay m ρ k c := by
  dsimp only [ringRd]; rw [if_neg (recv_ne_bar k), recvIdx_recv]

/-- The whole of a cell's round, no duty taken yet. -/
theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m ρ).duties (sendCell k c) 0 \ ∅) (fun d => (ringRd (F := F) m ρ).payload (sendCell k c) 0 d) = sendPay m ρ k c := by
  rw [Finset.sdiff_empty, duties_send, bigSep_singleton, payload_send]
theorem rest_recv : bigSep ((ringRd (F := F) m ρ).duties (recvCell k c) 0 \ ∅) (fun d => (ringRd (F := F) m ρ).payload (recvCell k c) 0 d) = recvPay m ρ k c := by
  rw [Finset.sdiff_empty, duties_recv, bigSep_singleton, payload_recv]

end Sched

/-! ## What each device owes at launch; the levels -/

/-- The credit of the right neighbour's receive cell `k`. -/
abbrev owR (k : Fin 3) (c : Dev nD) : CellTallies nD τ sig Unit := tallyAt (recvCell k (rgt c)) () N
/-- What is owed before the second, the first, and after the barrier's signals: each step peels the last summand. -/
def O₂ (c : Dev nD) : CellTallies nD τ sig Unit := owR 2 c
def O₃ (c : Dev nD) : CellTallies nD τ sig Unit := O₂ c + owR 1 c
def O₄ (c : Dev nD) : CellTallies nD τ sig Unit := O₃ c + owR 0 c
def O₅ (c : Dev nD) : CellTallies nD τ sig Unit := O₄ c + tallyAt (barCell (rgt c)) () 1
/-- At launch a device owes its right neighbour's three receive cells a slot's credit and both neighbours' barrier cells a unit. -/
def O₀ (c : Dev nD) : CellTallies nD τ sig Unit := O₅ c + tallyAt (barCell (lft c)) () 1

def L (g : GSem nD τ sig) : Finset Unit := if g.1.2 = .tc then {()} else ∅
/-- Barrier cells at 1, the receive cell of step `k` at `2 + k`, everything else at 0. -/
def lv (g : GSem nD τ sig) (_ : Unit) : ℕ := if g.2 = .reg barS then 1 else match recvIdx g.2 with
  | some k => 2 + k.val
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (k : Fin 3) (c : Dev nD) (u : Unit) : lv (recvCell k c) u = 2 + k.val := by
  dsimp only [lv]; rw [if_neg (recv_ne_bar k), recvIdx_recv]
theorem lv_dma (c : Dev nD) (q : DmaSem sig) (h : recvIdx (.dma q) = none) (u : Unit) : lv ((c : Thread nD τ), .dma q) u = 0 := by
  dsimp only [lv]; rw [if_neg (fun h => by cases h), h]

/-- The cells a tally touches lie on a TensorCore, above level `n`. -/
def Above (n : ℕ) (O : CellTallies nD τ sig Unit) : Prop := ∀ g u, 0 < O g u → L g = {()} ∧ n < lv g u

theorem above_tally (n : ℕ) (c : Dev nD) (sm : SemLoc sig) (j : ℕ) (h : n < lv ((c : Thread nD τ), sm) ()) :
    Above n (tallyAt ((c : Thread nD τ), sm) () j) := fun g u hg => by
  rw [tallyAt_apply] at hg
  by_cases h' : g = ((c : Thread nD τ), sm) ∧ u = ()
  · rw [h'.1]; exact ⟨L_tc c sm, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_R (n : ℕ) (k : Fin 3) (c : Dev nD) (h : n < 2 + k.val) : Above n (owR k c) := above_tally _ _ _ _ (by rw [lv_recv]; exact h)
theorem above_O₂ (c : Dev nD) : Above 3 (O₂ c) := above_R 3 2 c (by decide)
theorem above_O₃ (c : Dev nD) : Above 2 (O₃ c) := above_add (above_R 2 2 c (by decide)) (above_R 2 1 c (by decide))
theorem above_O₄ (c : Dev nD) : Above 1 (O₄ c) :=
  above_add (above_add (above_R 1 2 c (by decide)) (above_R 1 1 c (by decide))) (above_R 1 0 c (by decide))
theorem above_mono {n n' : ℕ} {O : CellTallies nD τ sig Unit} (h : Above n O) (hn : n' ≤ n) : Above n' O := fun g u hg =>
  ⟨(h g u hg).1, lt_of_le_of_lt hn (h g u hg).2⟩
theorem above_O₀ (c : Dev nD) : Above 0 (O₀ c) :=
  above_add (above_add (above_mono (above_O₄ c) (by decide)) (above_tally _ _ _ _ (by rw [lv_bar]; decide))) (above_tally _ _ _ _ (by rw [lv_bar]; decide))

/-- A device may wait at a cell below everything it owes. -/
theorem mayWait_of (c : Dev nD) (sm : SemLoc sig) (n : ℕ) (O : CellTallies nD τ sig Unit) (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barS) () (O₄ c) :=
  mayWait_of c _ 1 _ (le_of_eq (lv_bar c ())) (above_O₄ c)
theorem mayWait_copy (k : Fin 2) (c : Dev nD) : (levAts L lv : sProp 𝕄) ⊢ MayWait (c : Thread nD τ) (.dma (copyS k)) () (O₄ c) :=
  mayWait_of c _ 0 _ (le_of_eq (lv_dma c _ (recvIdx_copy k) ())) (above_mono (above_O₄ c) (by decide))
theorem mayWait_send (k : Fin 3) (c : Dev nD) (n : ℕ) (O : CellTallies nD τ sig Unit) (hO : Above n O) :
    (levAts L lv : sProp 𝕄) ⊢ MayWait (c : Thread nD τ) (.dma (sendS k)) () O :=
  mayWait_of c _ 0 _ (le_of_eq (lv_dma c _ (recvIdx_send k) ())) (above_mono hO (Nat.zero_le _))
theorem mayWait_recv (k : Fin 3) (c : Dev nD) (O : CellTallies nD τ sig Unit) (hO : Above (2 + k.val) O) :
    (levAts L lv : sProp 𝕄) ⊢ MayWait (c : Thread nD τ) (.dma (recvS k)) () O :=
  mayWait_of c _ (2 + k.val) _ (le_of_eq (lv_recv k c ())) hO
theorem mayWait_stage (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · exact mayWait_of c _ 0 _ (le_of_eq (lv_dma c _ hq ())) (above_O₀ c)
  · rw [MayWait_zero]; iintro -; iempintro

/-! ## The result -/

/-- A partial result as a whole slot of the gather buffer holds it. -/
def lift4 (f : S8x8x256.Idx → Elt F .f32) : Vec F S1x8x8x256 .f32 := fun i => f (ix3 (i 1) (i 2) (i 3))

/-- The combination of four partial results: the own one, then those received. -/
def combine (p : S8x8x256.Idx → Elt F .f32) (g0 g1 g2 : Vec F S1x8x8x256 .f32) : FVec F S8x1x8x128 .f32 :=
  k0_pay1 (k0_pay66 g1) (k0_pay67 g2) (k0_pay68 p g0 g1 g2) (k0_pay71 p g0 g1 g2) (k0_pay72 p g0 g1 g2) (k0_pay73 g1)

/-- The kernel's result on device `c`. -/
def outAt (c : Dev nD) : (cc0_stg3_0 : Ref sig .tc).ty.Contents (Elt F) :=
  combine (part m ρ c) (lift4 (part m ρ (back 1 c))) (lift4 (part m ρ (back 2 c))) (lift4 (part m ρ (back 3 c)))

/-! ## What the body starts from and what it leaves -/

/-- The invariants the body of device `c` opens, under the names `K` of the launch: its own seven cells, both
    neighbours' barrier cells, the right neighbour's receive cells. -/
def invs (K : Dev nD × Fin 7 → ℕ) (c : Dev nD) : sProp 𝕄 :=
  iprop(cellInv ER (ringRd m ρ) (K (c, 0)) (barCell c)
    ∗ cellInv ER (ringRd m ρ) (K (c, 1)) (sendCell 0 c) ∗ cellInv ER (ringRd m ρ) (K (c, 2)) (sendCell 1 c) ∗ cellInv ER (ringRd m ρ) (K (c, 3)) (sendCell 2 c)
    ∗ cellInv ER (ringRd m ρ) (K (c, 4)) (recvCell 0 c) ∗ cellInv ER (ringRd m ρ) (K (c, 5)) (recvCell 1 c) ∗ cellInv ER (ringRd m ρ) (K (c, 6)) (recvCell 2 c)
    ∗ cellInv ER (ringRd m ρ) (K (rgt c, 0)) (barCell (rgt c)) ∗ cellInv ER (ringRd m ρ) (K (lft c, 0)) (barCell (lft c))
    ∗ cellInv ER (ringRd m ρ) (K (rgt c, 4)) (recvCell 0 (rgt c)) ∗ cellInv ER (ringRd m ρ) (K (rgt c, 5)) (recvCell 1 (rgt c))
    ∗ cellInv ER (ringRd m ρ) (K (rgt c, 6)) (recvCell 2 (rgt c)))

instance invs_persistent (K : Dev nD × Fin 7 → ℕ) (c : Dev nD) : BI.Persistent (invs m ρ K c) := by unfold invs; infer_instance

/-- The cells a device pays have reached round 0. -/
def marks (c : Dev nD) : sProp 𝕄 :=
  iprop(reached ER (barCell (lft c)) 0 ∗ reached ER (barCell (rgt c)) 0
    ∗ reached ER (sendCell 0 c) 0 ∗ reached ER (sendCell 1 c) 0 ∗ reached ER (sendCell 2 c) 0
    ∗ reached ER (recvCell 0 (rgt c)) 0 ∗ reached ER (recvCell 1 (rgt c)) 0 ∗ reached ER (recvCell 2 (rgt c)) 0)

instance marks_persistent (c : Dev nD) : BI.Persistent (marks (F := F) c) := by unfold marks; infer_instance

/-- A device's positions: round 0 of each of its seven cells. -/
def spots (c : Dev nD) : sProp 𝕄 :=
  iprop(atPos ER (barCell c) 0 ∅ 0 ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- The duties it pays: the left neighbour's barrier duty `true`, the right one's `false`, its sends, the right neighbour's receives. -/
def duties (c : Dev nD) : sProp 𝕄 :=
  iprop(dutyTok ER (barCell (lft c)) 0 true ∗ dutyTok ER (barCell (rgt c)) 0 false
    ∗ dutyTok ER (sendCell 0 c) 0 false ∗ dutyTok ER (sendCell 1 c) 0 false ∗ dutyTok ER (sendCell 2 c) 0 false
    ∗ dutyTok ER (recvCell 0 (rgt c)) 0 false ∗ dutyTok ER (recvCell 1 (rgt c)) 0 false ∗ dutyTok ER (recvCell 2 (rgt c)) 0 false)

/-- The ring's ghost state on device `c`. -/
def ghost (K : Dev nD × Fin 7 → ℕ) (c : Dev nD) : sProp 𝕄 := iprop(invs m ρ K c ∗ marks c ∗ spots c ∗ duties c)

/-- The credit its waits spend. -/
def wages (c : Dev nD) : sProp 𝕄 :=
  iprop(cred (tallyAt (barCell c) () 2) ∗ cred (tallyAt (recvCell 0 c) () N) ∗ cred (tallyAt (recvCell 1 c) () N) ∗ cred (tallyAt (recvCell 2 c) () N))

/-- The page pools, unchanged. -/
def pools (c : Dev nD) : sProp 𝕄 :=
  iprop((((c : Thread nD τ).loc main_arg1) ↦{fullShare} (s₀ m ρ).mem ((c : Thread nD τ).loc main_arg1))
    ∗ (((c : Thread nD τ).loc main_arg2) ↦{fullShare} (s₀ m ρ).mem ((c : Thread nD τ).loc main_arg2)))

/-- The four scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The local copies' counters at zero. -/
def copies (c : Dev nD) : sProp 𝕄 := iprop(semVal (copyCell 0 c) 0 ∗ semVal (copyCell 1 c) 0)
/-- The transfers' counters at zero. -/
def xfers (c : Dev nD) : sProp 𝕄 :=
  iprop(semVal (sendCell 0 c) 0 ∗ semVal (sendCell 1 c) 0 ∗ semVal (sendCell 2 c) 0 ∗ semVal (recvCell 0 c) 0 ∗ semVal (recvCell 1 c) 0 ∗ semVal (recvCell 2 c) 0)

/-- Before the body: the ghost state at some names, the credit, the levels, the pools, the copies' counters; -/
def start (c : Dev nD) : sProp 𝕄 := iprop((∃ K, ghost m ρ K c) ∗ wages c ∗ levAts L lv ∗ pools m ρ c ∗ copies c)
/-- with the scratch buffers. -/
def Φ₀ (c : Dev nD) : sProp 𝕄 := iprop(start m ρ c ∗ scratch c)
/-- After it: every counter at zero, the pools unchanged, the scratch buffers at any contents. -/
def Φ₁ (c : Dev nD) : sProp 𝕄 := iprop(pools m ρ c ∗ scratch c ∗ copies c ∗ xfers c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => bstg m ρ c
    | ⟨2, _⟩ => lstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Ring

end
-- ==== Proof.PartIdeal.lean ====
/-
# `PartIdeal`: what the local phase leaves, head by head

The local phase stores 24 pieces into the partial result, three per head. Read back, they are `part`.
-/
module

public import proofs.«01_k».proof.Proof.RingIdeal
public import Idealize.ShloMosaic.Lib.WritesUnit
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.ShloMosaic.ValueIdx (ix3 ix4)

variable {F : FTy → Type} [FloatOps F] [Named F]
variable (m : (ℓ : Loc nD τ sig) → Buf (Elt F) ℓ) (ρ : Dev nD → PrngReg)

/-! ## One head of a page pool, through the slice the local copies read -/

theorem casts_head : S512x16x1x128.ShapeCasts S512x16x128 := by decide

/-- The slice of a page pool at head `h`, its unit axis dropped, reads that head. -/
theorem read_head (b : Memref sig .tc .hbm S512x16x8x128 .f32) (off : Fin 4 → ℕ) (h : Fin 8) (hoff : off = ![0, 0, h.val, 0])
    (inb : ∀ a, off a + S512x16x1x128.size a ≤ S512x16x8x128.size a) (hr) (hq : S512x16x1x128.Squeezes S512x16x128)
    (f : b.view.ty.Contents (Elt F)) :
    ((b.slice (Rect.unit (s := S512x16x8x128) off S512x16x1x128.size inb) hr).squeeze S512x16x128 hq).view.read (Elt F) f
      = headOf (b.view.read (Elt F) f) h := by
  subst hoff
  funext y
  refine (congrFun (Memref.read_squeeze_slice b (Rect.unit (s := S512x16x8x128) ![0, 0, h.val, 0] S512x16x1x128.size inb) hr hq casts_head f) y).trans
    ((shapeCast_apply _ casts_head y (ix4 (n0 := 512) (n1 := 16) (n2 := 1) (n3 := 128) (y 0) (y 1) 0 (y 2)) ?_).trans ?_)
  · rw [Shape.rowMajor_val_four, Shape.rowMajor_val_three]
    show (((y 0).val * 16 + (y 1).val) * 1 + 0) * 128 + (y 2).val = ((y 0).val * 16 + (y 1).val) * 128 + (y 2).val
    omega
  unfold headOf
  refine congrArg (b.view.read (Elt F) f) (funext fun a => Fin.ext ?_)
  fin_cases a
  · show 0 + 1 * (y 0).val = (y 0).val; omega
  · show 0 + 1 * (y 1).val = (y 1).val; omega
  · show h.val + 1 * 0 = h.val; omega
  · show 0 + 1 * (y 2).val = (y 2).val; omega

/-! ## The 24 pieces -/

theorem inb_o (h : Fin 8) : ∀ a, (![0, h.val, 0] : Fin 3 → ℕ) a + S8x1x128.size a ≤ S8x8x256.size a := by revert h; decide
theorem inb_m (h : Fin 8) : ∀ a, (![0, h.val, 128] : Fin 3 → ℕ) a + S8x1x1.size a ≤ S8x8x256.size a := by revert h; decide
theorem inb_l (h : Fin 8) : ∀ a, (![0, h.val, 129] : Fin 3 → ℕ) a + S8x1x1.size a ≤ S8x8x256.size a := by revert h; decide

/-- Three vectors are the results of head `h` on device `c`. -/
structure IsHead (c : Dev nD) (h : Fin 8) (o : Vec F S8x1x128 .f32) (mx l : Vec F S8x1x1 .f32) : Prop where
  ho : o = oPay (multOf m ρ c) (aliveOf m ρ c) (qOf m ρ c) h (kOf m ρ c h) (vOf m ρ c h)
  hm : mx = mPay (aliveOf m ρ c) (qOf m ρ c) h (kOf m ρ c h)
  hl : l = lPay (multOf m ρ c) (aliveOf m ρ c) (qOf m ρ c) h (kOf m ρ c h)

/-- After the stores `L` (the newest first), the buffer holds the partial result at every head below `n`. -/
def Below (c : Dev nD) (f : (pM : Memref sig .tc .vmem S8x8x256 .f32).view.ty.Contents (Elt F)) (n : ℕ) (L : List (View.Piece (Elt F) S8x8x256 .f32)) : Prop :=
  ∀ i : S8x8x256.Idx, (i 1).val < n → (i 2).val < 130 →
    (pM : Memref sig .tc .vmem S8x8x256 .f32).view.read (Elt F) ((pM : Memref sig .tc .vmem S8x8x256 .f32).view.writes (Elt F) f L) i = part m ρ c i

/-- Before any store it holds it at no head; -/
theorem below_nil (c : Dev nD) (f : (pM : Memref sig .tc .vmem S8x8x256 .f32).view.ty.Contents (Elt F)) : Below m ρ c f 0 [] :=
  fun _ h => absurd h (Nat.not_lt_zero _)

/-- one more head's three stores add that head. -/
theorem below_cons (c : Dev nD) (f : (pM : Memref sig .tc .vmem S8x8x256 .f32).view.ty.Contents (Elt F)) (h : Fin 8)
    {o : Vec F S8x1x128 .f32} {mx l : Vec F S8x1x1 .f32} {L : List (View.Piece (Elt F) S8x8x256 .f32)}
    (hd : IsHead m ρ c h o mx l) (hL : Below m ρ c f h.val L) :
    Below m ρ c f (h.val + 1)
      (⟨Rect.unit (s := S8x8x256) ![0, h.val, 129] S8x1x1.size (inb_l h), l⟩
        :: ⟨Rect.unit (s := S8x8x256) ![0, h.val, 128] S8x1x1.size (inb_m h), mx⟩
        :: ⟨Rect.unit (s := S8x8x256) ![0, h.val, 0] S8x1x128.size (inb_o h), o⟩ :: L) := by
  intro i h1 h2
  have h0 : (i 0).val < 8 := (i 0).isLt
  by_cases hlt : (i 1).val < h.val
  · have key : (i 1).val < h.val ∨ h.val + 1 ≤ (i 1).val := .inl hlt
    exact (View.read_writes_cons_unit_of_not_mem _ _ _ _ _ i rfl 1 key).trans
      ((View.read_writes_cons_unit_of_not_mem _ _ _ _ _ i rfl 1 key).trans
        ((View.read_writes_cons_unit_of_not_mem _ _ _ _ _ i rfl 1 key).trans (hL i hlt h2)))
  · have hin : (i 1).val = h.val := by omega
    obtain rfl : i 1 = h := Fin.ext hin
    obtain ⟨rfl, rfl, rfl⟩ := hd
    unfold part
    by_cases hd : (i 2).val < 128
    · rw [dif_pos hd]
      refine (View.read_writes_cons_unit_of_not_mem _ _ _ _ _ i rfl 2 (.inl (show (i 2).val < 129 by omega))).trans
        ((View.read_writes_cons_unit_of_not_mem _ _ _ _ _ i rfl 2 (.inl hd)).trans
          (View.read_writes_cons_unit_of_mem _ _ _ _ _ i (ix3 (i 0) 0 ⟨(i 2).val, hd⟩) rfl ?_))
      intro a
      fin_cases a
      · show (i 0).val = 0 + (i 0).val; omega
      · show (i 1).val = (i 1).val + 0; omega
      · show (i 2).val = 0 + (i 2).val; omega
    · rw [dif_neg hd]
      by_cases he : (i 2).val = 128
      · rw [if_pos he]
        refine (View.read_writes_cons_unit_of_not_mem _ _ _ _ _ i rfl 2 (.inl (show (i 2).val < 129 by omega))).trans
          (View.read_writes_cons_unit_of_mem _ _ _ _ _ i (ix3 (i 0) 0 0) rfl ?_)
        intro a
        fin_cases a
        · show (i 0).val = 0 + (i 0).val; omega
        · show (i 1).val = (i 1).val + 0; omega
        · show (i 2).val = 128 + 0; omega
      · rw [if_neg he]
        refine View.read_writes_cons_unit_of_mem _ _ _ _ _ i (ix3 (i 0) 0 0) rfl ?_
        intro a
        fin_cases a
        · show (i 0).val = 0 + (i 0).val; omega
        · show (i 1).val = (i 1).val + 0; omega
        · show (i 2).val = 129 + 0; omega

/-- With all eight heads stored the buffer is good. -/
theorem below_good (c : Dev nD) (f : (pM : Memref sig .tc .vmem S8x8x256 .f32).view.ty.Contents (Elt F)) {L : List (View.Piece (Elt F) S8x8x256 .f32)}
    (h : Below m ρ c f 8 L) :
    Good m ρ c ((pM : Memref sig .tc .vmem S8x8x256 .f32).view.read (Elt F) ((pM : Memref sig .tc .vmem S8x8x256 .f32).view.writes (Elt F) f L)) :=
  fun i hi => h i (i 1).isLt hi

/-! ## The combination reads the first 130 lanes only -/

section Cuts
variable (p p' : S8x8x256.Idx → Elt F .f32) (hp : ∀ i : S8x8x256.Idx, (i 2).val < 130 → p i = p' i)
include hp

/-- The three cuts of a chunk: the first 128 lanes, lane 128, lane 129. -/
theorem cutO_congr : extractStridedSlice S8x8x128 ![0, 0, 0] p slices_S8x8x256_o0_0_0_S8x8x128 = extractStridedSlice S8x8x128 ![0, 0, 0] p' slices_S8x8x256_o0_0_0_S8x8x128 :=
  funext fun j => hp _ (by have h : (j 2).val < 128 := (j 2).isLt; show 0 + (j 2).val < 130; omega)
theorem cutM_congr : extractStridedSlice S8x8x1 ![0, 0, 128] p slices_S8x8x256_o0_0_128_S8x8x1 = extractStridedSlice S8x8x1 ![0, 0, 128] p' slices_S8x8x256_o0_0_128_S8x8x1 :=
  funext fun j => hp _ (by have h : (j 2).val < 1 := (j 2).isLt; show 128 + (j 2).val < 130; omega)
theorem cutL_congr : extractStridedSlice S8x8x1 ![0, 0, 129] p slices_S8x8x256_o0_0_129_S8x8x1 = extractStridedSlice S8x8x1 ![0, 0, 129] p' slices_S8x8x256_o0_0_129_S8x8x1 :=
  funext fun j => hp _ (by have h : (j 2).val < 1 := (j 2).isLt; show 129 + (j 2).val < 130; omega)

end Cuts

/-- A slot with its unit axis dropped, read at an index. -/
theorem cast_slot (g : Vec F S1x8x8x256 .f32) (i : S8x8x256.Idx) :
    shapeCast S8x8x256 g shapeCasts_S1x8x8x256_S8x8x256 i = g (ix4 (n0 := 1) (n1 := 8) (n2 := 8) (n3 := 256) 0 (i 0) (i 1) (i 2)) :=
  shapeCast_apply _ _ i _ (by
    rw [Shape.rowMajor_val_four, Shape.rowMajor_val_three]
    show ((0 * 8 + (i 0).val) * 8 + (i 1).val) * 256 + (i 2).val = ((i 0).val * 8 + (i 1).val) * 256 + (i 2).val
    omega)

theorem cast_lanes (g g' : Vec F S1x8x8x256 .f32) (hg : ∀ i : S1x8x8x256.Idx, (i 3).val < 130 → g i = g' i) (i : S8x8x256.Idx) (hi : (i 2).val < 130) :
    shapeCast S8x8x256 g shapeCasts_S1x8x8x256_S8x8x256 i = shapeCast S8x8x256 g' shapeCasts_S1x8x8x256_S8x8x256 i := by
  rw [cast_slot, cast_slot]; exact hg _ hi

/-- Two contents that agree on the first 130 lanes have the same combination. -/
theorem combine_congr (p p' : S8x8x256.Idx → Elt F .f32) (g0 g1 g2 g0' g1' g2' : Vec F S1x8x8x256 .f32)
    (hp : ∀ i : S8x8x256.Idx, (i 2).val < 130 → p i = p' i)
    (h0 : ∀ i : S1x8x8x256.Idx, (i 3).val < 130 → g0 i = g0' i) (h1 : ∀ i : S1x8x8x256.Idx, (i 3).val < 130 → g1 i = g1' i)
    (h2 : ∀ i : S1x8x8x256.Idx, (i 3).val < 130 → g2 i = g2' i) :
    combine p g0 g1 g2 = combine p' g0' g1' g2' := by
  have c0 := cast_lanes g0 g0' h0
  have c1 := cast_lanes g1 g1' h1
  have c2 := cast_lanes g2 g2' h2
  unfold combine k0_pay1 k0_pay71 k0_pay72 k0_pay73 k0_pay69 k0_pay70 k0_pay68 k0_pay65 k0_pay66 k0_pay67
  dsimp only
  rw [cutO_congr _ _ hp, cutM_congr _ _ hp, cutL_congr _ _ hp, cutO_congr _ _ c0, cutM_congr _ _ c0, cutL_congr _ _ c0,
    cutO_congr _ _ c1, cutM_congr _ _ c1, cutL_congr _ _ c1, cutO_congr _ _ c2, cutM_congr _ _ c2, cutL_congr _ _ c2]

end Cert.KernelIdeal.Ring

end
-- ==== Proof.BodyIdeal.lean ====
/-
# `BodyIdeal`: the kernel's body on one device, from the launch's shares to the result
-/
module

public import proofs.«01_k».proof.Proof.RingIdeal
public import proofs.«01_k».proof.Proof.PartIdeal
public import Idealize.ShloMosaic.Lib.Ring

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 ix4)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The gather buffer, slot by slot -/

/-- The elements of slot `k` of the gather buffer. -/
def slot (k : Fin 3) : Finset S3x8x8x256.Idx := (gR k).set

theorem mem_slot (k : Fin 3) (i : S3x8x8x256.Idx) : i ∈ slot k ↔ i 0 = k := by
  have h1 : (i 1).val < 8 := (i 1).isLt
  have h2 : (i 2).val < 8 := (i 2).isLt
  have h3 : (i 3).val < 256 := (i 3).isLt
  have key : ∀ n : ℕ, (∀ a : Fin 4, (![n, 0, 0, 0] : Fin 4 → ℕ) a ≤ (i a).val ∧ (i a).val < (![n, 0, 0, 0] : Fin 4 → ℕ) a + S1x8x8x256.size a) ↔ (i 0).val = n := fun n =>
    ⟨fun h => by have := h 0; simp at this; omega, fun h a => by fin_cases a <;> simp <;> omega⟩
  refine Iff.trans ?_ (Fin.ext_iff (a := (i 0 : Fin 3)) (b := k)).symm
  fin_cases k <;> exact Rect.mem_set_unit.trans (key _)

theorem slot_disjoint (k k' : Fin 3) (h : k ≠ k') : Disjoint (slot k) (slot k') :=
  Finset.disjoint_left.mpr fun i h1 h2 => h (((mem_slot k i).mp h1).symm.trans ((mem_slot k' i).mp h2))
theorem slot_cover : Finset.univ.biUnion slot = Finset.univ :=
  Finset.eq_univ_of_forall fun i => Finset.mem_biUnion.mpr ⟨i 0, Finset.mem_univ _, (mem_slot _ i).mpr rfl⟩

theorem gset (k : Fin 3) (c : Dev nD) (f : Buf (Elt F) ((c : Thread nD τ).loc cc0_scratch1)) :
    (match k with | 0 => gPts (F := F) 0 c f | 1 => gPts 1 c f | 2 => gPts 2 c f) = (((c : Thread nD τ).loc cc0_scratch1) ↦[slot k]{fullShare} f : sProp 𝕄) := by
  fin_cases k <;> (dsimp only; unfold gPts slot; simp only [Memref.view_squeeze, View.set_reshape, Memref.view_slice, Memref.view_whole, View.set_slice_whole])

/-- The gather buffer held whole is its three slots held. -/
theorem gather_split (c : Dev nD) (f : Buf (Elt F) ((c : Thread nD τ).loc cc0_scratch1)) :
    (((c : Thread nD τ).loc cc0_scratch1) ↦{fullShare} f : sProp 𝕄) ⊢ iprop(gPts (F := F) 0 c f ∗ gPts (F := F) 1 c f ∗ gPts (F := F) 2 c f) := by
  refine (Entails.of_eq (_root_.Idealize.ShloMosaic.Ring.pointsTo_blocks (ℓ := (c : Thread nD τ).loc cc0_scratch1) slot slot_disjoint slot_cover f)).trans ?_
  rw [bigSep_univ_eq_bigSepL [0, 1, 2] (by decide) (by decide), bigSepL_cons_cons, bigSepL_cons_cons, bigSepL_singleton,
    ← gset 0 c f, ← gset 1 c f, ← gset 2 c f]
  exact BI.Entails.refl _

/-- Three slots, each at its own contents, are the gather buffer at some contents. -/
theorem gather_join (c : Dev nD) (f0 f1 f2 : Buf (Elt F) ((c : Thread nD τ).loc cc0_scratch1)) :
    iprop(gPts (F := F) 0 c f0 ∗ gPts (F := F) 1 c f1 ∗ gPts (F := F) 2 c f2)
      ⊢ (iprop(∃ g : Buf (Elt F) ((c : Thread nD τ).loc cc0_scratch1), ((c : Thread nD τ).loc cc0_scratch1) ↦{fullShare} g) : sProp 𝕄) := by
  refine BI.Entails.trans ?_ (_root_.Idealize.ShloMosaic.Ring.pointsTo_blocks_join (ℓ := (c : Thread nD τ).loc cc0_scratch1) slot slot_disjoint slot_cover ![f0, f1, f2] f0)
  rw [bigSep_univ_eq_bigSepL [0, 1, 2] (by decide) (by decide), bigSepL_cons_cons, bigSepL_cons_cons, bigSepL_singleton,
    ← gset 0 c _, ← gset 1 c _, ← gset 2 c _]
  exact BI.Entails.refl _

/-- A buffer held whole, as the view of the whole buffer holds it. -/
theorem whole_pts (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := BI.Entails.refl _

/-! ## What the loads of the last part read -/

/-- The box of a slot lies in the slot, -/
theorem slot_access (k : Fin 3) : ((gW : Memref sig .tc .vmem S3x8x8x256 .f32).access (gR k)).set ⊆ (match k with | 0 => (gM 0).view.set | 1 => (gM 1).view.set | 2 => (gM 2).view.set) := by
  fin_cases k <;> (dsimp only; simp only [Memref.access, Memref.view_squeeze, View.set_reshape, Memref.view_slice, Memref.view_whole, View.set_slice_whole]; exact Finset.Subset.refl _)

/-- and what a good slot holds, loaded through its box, agrees with the partial result on the lanes read. -/
theorem slot_lanes (d : Dev nD) (off : Fin 4 → ℕ) (inb : ∀ a, off a + S1x8x8x256.size a ≤ S3x8x8x256.size a) (hr)
    (f : (gW : Memref sig .tc .vmem S3x8x8x256 .f32).view.ty.Contents (Elt F))
    (h : Good m ρ d ((((gW : Memref sig .tc .vmem S3x8x8x256 .f32).slice (Rect.unit (s := S3x8x8x256) off S1x8x8x256.size inb) hr).squeeze S8x8x256 squeezes_S1x8x8x256_S8x8x256).view.read (Elt F) f))
    (i : S1x8x8x256.Idx) (hi : (i 3).val < 130) :
    ((gW : Memref sig .tc .vmem S3x8x8x256 .f32).access (Rect.unit (s := S3x8x8x256) off S1x8x8x256.size inb)).read (Elt F) f i = lift4 (part m ρ d) i := by
  have h1 := h (ix3 (i 1) (i 2) (i 3)) hi
  rw [Memref.read_squeeze_slice gW _ hr squeezes_S1x8x8x256_S8x8x256 shapeCasts_S1x8x8x256_S8x8x256, cast_slot] at h1
  have h2 : (ix4 (n0 := 1) (n1 := 8) (n2 := 8) (n3 := 256) 0 (i 1) (i 2) (i 3) : S1x8x8x256.Idx) = i := funext fun a => by
    fin_cases a
    · exact Fin.ext (by have : (i 0).val < 1 := (i 0).isLt; show 0 = (i 0).val; omega)
    · rfl
    · rfl
    · rfl
  exact (congrArg (((gW : Memref sig .tc .vmem S3x8x8x256 .f32).access (Rect.unit (s := S3x8x8x256) off S1x8x8x256.size inb)).read (Elt F) f) h2).symm.trans h1

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- A head's keys, copied whole into the scratch buffer and loaded from it, are that head's keys; -/
theorem load_k (c : Dev nD) (h : Fin 8) (off : Fin 4 → ℕ) (hoff : off = ![0, 0, h.val, 0])
    (inb : ∀ a, off a + S512x16x1x128.size a ≤ S512x16x8x128.size a) (hr) (hq : S512x16x1x128.Squeezes S512x16x128)
    (inb' : ∀ a, (![0, 0, 0] : Fin 3 → ℕ) a + S512x16x128.size a ≤ S512x16x128.size a) (f : (cc0_scratch2 : Ref sig .tc).ty.Contents (Elt F)) :
    (Memref.whole cc0_scratch2 : Memref sig .tc .vmem S512x16x128 .f32).view.readAt (Elt F) (Rect.unit (s := S512x16x128) ![0, 0, 0] S512x16x128.size inb').toLoadRect
      ((Memref.whole cc0_scratch2 : Memref sig .tc .vmem S512x16x128 .f32).view.write (Elt F) f
        ((((Memref.whole main_arg1 : Memref sig .tc .hbm S512x16x8x128 .f32).slice (Rect.unit (s := S512x16x8x128) off S512x16x1x128.size inb) hr).squeeze S512x16x128 hq).view.read (Elt F)
          ((s₀ m ρ).mem ((c : Thread nD τ).loc main_arg1))) Finset.univ) = kOf m ρ c h :=
  (Memref.readAt_unit_zero (Elt F) cc0_scratch2 hz3 inb' _).trans
    ((View.write_whole_univ cc0_scratch2 f _).trans (read_head (Memref.whole main_arg1) off h hoff inb hr hq _))

/-- and its values likewise. -/
theorem load_v (c : Dev nD) (h : Fin 8) (off : Fin 4 → ℕ) (hoff : off = ![0, 0, h.val, 0])
    (inb : ∀ a, off a + S512x16x1x128.size a ≤ S512x16x8x128.size a) (hr) (hq : S512x16x1x128.Squeezes S512x16x128)
    (inb' : ∀ a, (![0, 0, 0] : Fin 3 → ℕ) a + S512x16x128.size a ≤ S512x16x128.size a) (f : (cc0_scratch3 : Ref sig .tc).ty.Contents (Elt F)) :
    (Memref.whole cc0_scratch3 : Memref sig .tc .vmem S512x16x128 .f32).view.readAt (Elt F) (Rect.unit (s := S512x16x128) ![0, 0, 0] S512x16x128.size inb').toLoadRect
      ((Memref.whole cc0_scratch3 : Memref sig .tc .vmem S512x16x128 .f32).view.write (Elt F) f
        ((((Memref.whole main_arg2 : Memref sig .tc .hbm S512x16x8x128 .f32).slice (Rect.unit (s := S512x16x8x128) off S512x16x1x128.size inb) hr).squeeze S512x16x128 hq).view.read (Elt F)
          ((s₀ m ρ).mem ((c : Thread nD τ).loc main_arg2))) Finset.univ) = vOf m ρ c h :=
  (Memref.readAt_unit_zero (Elt F) cc0_scratch3 hz3 inb' _).trans
    ((View.write_whole_univ cc0_scratch3 f _).trans (read_head (Memref.whole main_arg2) off h hoff inb hr hq _))

/-! ## One head's results, over whatever the loads read -/

/-- How often each token occurs, over the table and lengths read; -/
def multR (c : Dev nD) (b : IVec S8x512 32) (l : IVec S8 32) : FVec F S8x8192 .f32 :=
  k0_pay6 (k0_pay2 (yOf c) b l) (iota .tc S8192x1 32 [0] iota_S8192x1_d0_w32) 16#32 k0_pay3 k0_pay4 k0_pay5
/-- which tokens occur. -/
def aliveR (c : Dev nD) (b : IVec S8x512 32) (l : IVec S8 32) : IVec S8x8192 1 :=
  k0_pay7 (k0_pay2 (F := F) (yOf c) b l) (iota .tc S8192x1 32 [0] iota_S8192x1_d0_w32) 16#32 k0_pay3 k0_pay4 k0_pay5

/-- Results computed from the masks, queries, keys and values of head `h` are that head's. -/
theorem is_head (c : Dev nD) (h : Fin 8) {mult : FVec F S8x8192 .f32} {alive : IVec S8x8192 1} {q : FVec F S8x8x128 .f32} {k v : Vec F S512x16x128 .f32}
    {o : Vec F S8x1x128 .f32} {mx l : Vec F S8x1x1 .f32}
    (hmult : mult = multOf m ρ c) (halive : alive = aliveOf m ρ c) (hq : q = qOf m ρ c) (hk : k = kOf m ρ c h) (hv : v = vOf m ρ c h)
    (ho : o = oPay mult alive q h k v) (hm : mx = mPay alive q h k) (hl : l = lPay mult alive q h k) : IsHead m ρ c h o mx l := by
  subst hmult halive hq hk hv
  exact ⟨ho, hm, hl⟩

/-! ## The body -/

section Body
variable (K : Dev nD × Fin 7 → ℕ)

/-- The body's start on device `c`, the staging buffers in the kernel's hands. -/
def bodyPre (c : Dev nD) : sProp 𝕄 :=
  iprop((ghost m ρ K c ∗ wages c ∗ levAts L lv ∗ pools m ρ c ∗ copies c) ∗ scratch c
    ∗ (dats m ρ 0 c).owesAt () t0_0.castSucc
    ∗ stg c cc0_stg0_0 (qstg m ρ c) ∗ stg c cc0_stg1_0 (bstg m ρ c) ∗ stg c cc0_stg2_0 (lstg m ρ c)
    ∗ (∃ d, stg c cc0_stg3_0 d))
def bodyPost (c : Dev nD) : sProp 𝕄 :=
  iprop(Φ₁ m ρ c ∗ (dats m ρ 0 c).owesAt () t0_0.succ
    ∗ stg c cc0_stg0_0 (qstg m ρ c) ∗ stg c cc0_stg1_0 (bstg m ρ c) ∗ stg c cc0_stg2_0 (lstg m ρ c) ∗ stg c cc0_stg3_0 (outAt m ρ c))

/-- Step `k`'s transfer, addressed to `n`, the right neighbour: it pays the own send cell with the source and the
    neighbour's receive cell with its slot, and leaves the send's credit. -/
theorem wp_send_ring (k : Fin 3) (c n : Dev nD) (hn : n = rgt c) {hsc : (gM k : Memref sig (Dev.tc n : Thread nD τ).2.kind .vmem S8x8x256 .f32).view.ref.isScScratch = false}
    {hsrc : (sM k : Memref sig .tc .vmem S8x8x256 .f32).view.WordExact} {hdst : (gM k : Memref sig .tc .vmem S8x8x256 .f32).view.WordExact}
    {hsem : DmaTarget.Typed .vmem (.dma (recvS k)) (.remote (Dev.tc n : Thread nD τ) (gM k : Memref sig .tc .vmem S8x8x256 .f32) (.dma (sendS k)) hsc)}
    {α : Type} {Q : α → sProp 𝕄} {kk : PUnit → Prog (TpuEff nD τ sig (Elt F) Λ₀ .tc) α} (κ₁ κ₂ : ℕ)
    (fs : Buf (Elt F) ((sM k).view.loc (c : Thread nD τ))) (hfs : Good m ρ (back k.val c) ((sM k).view.read (Elt F) fs))
    (fd : Buf (Elt F) ((gM k).view.loc (rgt c : Thread nD τ))) (O₁ O : CellTallies nD τ sig Unit) (hO : O₁ = O + owR k c) (W : Waits sig Unit) :
    iprop(cellInv ER (ringRd m ρ) κ₁ (sendCell k c) ∗ cellInv ER (ringRd m ρ) κ₂ (recvCell k (rgt c))
        ∗ sPts (F := F) k c fs ∗ gPts (F := F) k (rgt c) fd
        ∗ owes (c : Thread nD τ) O₁ W
        ∗ dutyTok ER (sendCell k c) 0 false ∗ reached ER (sendCell k c) 0
        ∗ dutyTok ER (recvCell k (rgt c)) 0 false ∗ reached ER (recvCell k (rgt c)) 0)
      ⊢ iprop(((cred (tallyAt (sendCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sM k) (.remote (Dev.tc n : Thread nD τ) (gM k) (.dma (sendS k)) hsc) (.dma (recvS k)) hsrc hdst hsem) kk) Q) := by
  subst hn
  refine Rounds.wp_send_pointsTo 𝒱₀ ER (ringRd m ρ) (c : Thread nD τ) none (κ₁ := κ₁) (κ₂ := κ₂)
    (r₁ := 0) (r₂ := 0) (d₁ := false) (d₂ := false) (fs := fs) (fd := fd)
    (by rw [duties_send]; exact Finset.mem_singleton_self _) (by rw [duties_recv]; exact Finset.mem_singleton_self _)
    () () N (by fin_cases k <;> rfl) (amount_send m ρ k c false) (amount_recv m ρ k (rgt c) false) O hO (W := W) ?_ ?_
  · rw [payload_send]; unfold sendPay sPts
    iintro H; iexists fs; isplitr; · (ipureintro; exact hfs)
    iexact H
  · rw [payload_recv]; unfold recvPay gPts
    iintro H; iexists ((gM k).view.write (Elt F) fd ((sM k).view.read (Elt F) fs) Finset.univ); isplitr [H]
    · ipureintro; rw [back_rgt, View.read_write_univ]; exact hfs
    iexact H

/-- A buffer's contents under a new name. -/
theorem pts_name {ℓ : Loc nD τ sig} {f : Buf (Elt F) ℓ} :
    (ℓ ↦{fullShare} f : sProp 𝕄) ⊢ iprop(∃ g, ⌜g = f⌝ ∗ (ℓ ↦{fullShare} g)) := by
  iintro H; iexists f; isplitr; · (ipureintro; rfl)
  iexact H

/-- The partial result as step 0's source. -/
theorem part_source (c : Dev nD) (f : Buf (Elt F) ((pM : Memref sig .tc .vmem S8x8x256 .f32).view.loc (c : Thread nD τ))) :
    ((pM : Memref sig .tc .vmem S8x8x256 .f32).view.loc (c : Thread nD τ) ↦{fullShare} f : sProp 𝕄) ⊢ sPts (F := F) 0 c f := by
  unfold sPts
  rw [show (sM 0).view.set = Finset.univ from View.set_whole _]

/-- Slot 0 is step 1's source, slot 1 step 2's. -/
theorem slot_source0 (c : Dev nD) (f) : (gPts (F := F) 0 c f : sProp 𝕄) ⊢ sPts (F := F) 1 c f := BI.Entails.refl _
theorem slot_source1 (c : Dev nD) (f) : (gPts (F := F) 1 c f : sProp 𝕄) ⊢ sPts (F := F) 2 c f := BI.Entails.refl _

/-- What a device owes, its waits unnamed. -/
theorem owes_any (t : Thread nD τ) (O : CellTallies nD τ sig Unit) (W : Waits sig Unit) :
    (owes t O W : sProp 𝕄) ⊢ iprop(∃ W, owes t O W) := by
  iintro H; iexists W; iexact H

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole main_arg1) (Memref.isWhole_whole _) (Memref.whole main_arg2) (Memref.isWhole_whole _)
            (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre ghost invs marks spots duties wages pools copies scratch
  iintro ⟨⟨⟨⟨⟨#HIb, #HIs0, #HIs1, #HIs2, #HIr0, #HIr1, #HIr2, #HIbR, #HIbL, #HIr0R, #HIr1R, #HIr2R⟩, ⟨#HmbL, #HmbR, #Hms0, #Hms1, #Hms2, #Hmr0, #Hmr1, #Hmr2⟩,
    ⟨HatB, HatS0, HatS1, HatS2, HatR0, HatR1, HatR2⟩, ⟨HtbL, HtbR, Hts0, Hts1, Hts2, Htr0, Htr1, Htr2⟩⟩, ⟨HcB, HcR0, HcR1, HcR2⟩, #Hlev, ⟨HK, HV⟩, ⟨Hc0, Hc1⟩⟩,
    ⟨⟨%fp, Hp⟩, ⟨%fg, Hg⟩, ⟨%fk, Hk⟩, ⟨%fv, Hv⟩⟩, Ho, ⟨%g0, %hg0, Hq⟩, ⟨%g1, %hg1, Hbt⟩, ⟨%g2, %hg2, Hln⟩, ⟨%d3, %g3, %hg3, Hout⟩⟩, HKt⟩
  subst hg0 hg1 hg2 hg3
  unfold Dat.owesAt Pipeline.owesWithin
  icases Ho with ⟨%W, %hW, HO⟩
  rw [show (dats m ρ 0 c).owed t0_0.castSucc = O₀ c from rfl]
  simp only [dev1_eq c, dev2_eq c]
  -- the first signal, to the left neighbour's barrier: duty `true`, with the own three slots
  ihave Hg3 := (gather_split c fg) $$ Hg
  icases Hg3 with ⟨Hg0, Hg1, Hg2⟩
  iapply (Rounds.wp_signal 𝒱₀ ER (ringRd m ρ) (c : Thread nD τ) none (dst := (lft c : Thread nD τ)) (κ := K (lft c, 0))
      (d := true) (by rw [duties_bar]; exact Finset.mem_univ _) ((amount_bar m ρ (lft c) true).trans (by decide)) () (O₅ c) rfl)
    $$ [HO HtbL Hg0 Hg1 Hg2]
  · isplitr; · iexact HIbL
    isplitl [HO]; · iexact HO
    isplitl [HtbL]; · iexact HtbL
    isplitl [Hg0 Hg1 Hg2]
    · rw [payload_bar_true]; unfold barPay; rw [rgt_lft]
      isplitl [Hg0]; · iexists fg; iexact Hg0
      isplitl [Hg1]; · iexists fg; iexact Hg1
      iexists fg; iexact Hg2
    iexact HmbL
  iintro HO
  -- the second, to the right neighbour's barrier: duty `false`, nothing to hand over
  iapply (Rounds.wp_signal 𝒱₀ ER (ringRd m ρ) (c : Thread nD τ) none (dst := (rgt c : Thread nD τ)) (κ := K (rgt c, 0))
      (d := false) (by rw [duties_bar]; exact Finset.mem_univ _) ((amount_bar m ρ (rgt c) false).trans (by decide)) () (O₄ c) rfl)
    $$ [HO HtbR]
  · isplitr; · iexact HIbR
    isplitl [HO]; · iexact HO
    isplitl [HtbR]; · iexact HtbR
    isplitr; · rw [payload_bar_false]; iempintro
    iexact HmbR
  iintro HO
  -- the wait for two on the own barrier: the right neighbour's three slots come with it
  iapply (Rounds.wp_wait_rest_token 𝒱₀ ER (ringRd m ρ) (c : Thread nD τ) none (κ := K (c, 0))
      (wpE_semWait_eq 𝒱₀ (c : Thread nD τ) none Set.univ) (Set.mem_univ _) () (O := O₄ c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hpay' := (Entails.of_eq (rest_bar m ρ c)) $$ Hpay
  unfold barPay
  icases Hpay' with ⟨-, ⟨%n0, Hn0⟩, ⟨%n1, Hn1⟩, ⟨%n2, Hn2⟩⟩
  -- the local part
  have hmw0 : (levAts L lv : sProp 𝕄) ⊢ MayWait (c : Thread nD τ) (.dma (copyS 0)) () (O₄ c) := mayWait_copy 0 c
  have hmw1 : (levAts L lv : sProp 𝕄) ⊢ MayWait (c : Thread nD τ) (.dma (copyS 1)) () (O₄ c) := mayWait_copy 1 c
  ihave Hq := (whole_pts c cc0_stg0_0 _) $$ Hq
  ihave Hbt := (whole_pts c cc0_stg1_0 _) $$ Hbt
  ihave Hln := (whole_pts c cc0_stg2_0 _) $$ Hln
  ihave Hout := (whole_pts c cc0_stg3_0 _) $$ Hout
  ihave HK := (whole_pts c main_arg1 _) $$ HK
  ihave HV := (whole_pts c main_arg2 _) $$ HV
  ihave Hp := (whole_pts c cc0_scratch0 _) $$ Hp
  ihave Hk := (whole_pts c cc0_scratch2 _) $$ Hk
  ihave Hv := (whole_pts c cc0_scratch3 _) $$ Hv
  set_option sl_exec.stopBefore "k0_part16" in sl_exec
  -- what it left in the partial result
  ihave HX := pts_name $$ Hp
  icases HX with ⟨%f0, %hf0, Hp⟩
  have hgood : Good m ρ c ((sM 0).view.read (Elt F) f0) := by
    rw [hf0]
    have hB (inb) := Memref.readAt_unit_zero (Elt F) cc0_stg1_0 hz2 inb (bstg m ρ c)
    have hL (inb) := Memref.readAt_unit_zero (Elt F) cc0_stg2_0 hz1 inb (lstg m ρ c)
    have hQ (inb) := Memref.readAt_unit_zero (Elt F) cc0_stg0_0 hz4 inb (qstg m ρ c)
    have hr : sound_body.sl.r m ρ c = multOf m ρ c := congrArg₂ (multR c) (hB _) (hL _)
    have hr1 : sound_body.sl.r_1 m ρ c = aliveOf m ρ c := congrArg₂ (aliveR c) (hB _) (hL _)
    have hr2 : sound_body.sl.r_2 m ρ c = qOf m ρ c := congrArg (k0_pay8 (F := F)) (hQ _)
    refine below_good m ρ c fp (below_cons m ρ c fp 7 ?_ (below_cons m ρ c fp 6 ?_ (below_cons m ρ c fp 5 ?_ (below_cons m ρ c fp 4 ?_
      (below_cons m ρ c fp 3 ?_ (below_cons m ρ c fp 2 ?_ (below_cons m ρ c fp 1 ?_ (below_cons m ρ c fp 0 ?_ (below_nil m ρ c fp)))))))))
    · exact is_head m ρ c 7 hr hr1 hr2 (show sound_body.sl.v422 m ρ c fk = _ from load_k m ρ c 7 _ rfl _ _ _ _ _)
        (show sound_body.sl.v424 m ρ c fv = _ from load_v m ρ c 7 _ rfl _ _ _ _ _) rfl rfl rfl
    · exact is_head m ρ c 6 hr hr1 hr2 (show sound_body.sl.v379 m ρ c fk = _ from load_k m ρ c 6 _ rfl _ _ _ _ _)
        (show sound_body.sl.v381 m ρ c fv = _ from load_v m ρ c 6 _ rfl _ _ _ _ _) rfl rfl rfl
    · exact is_head m ρ c 5 hr hr1 hr2 (show sound_body.sl.v336 m ρ c fk = _ from load_k m ρ c 5 _ rfl _ _ _ _ _)
        (show sound_body.sl.v338 m ρ c fv = _ from load_v m ρ c 5 _ rfl _ _ _ _ _) rfl rfl rfl
    · exact is_head m ρ c 4 hr hr1 hr2 (show sound_body.sl.v293 m ρ c fk = _ from load_k m ρ c 4 _ rfl _ _ _ _ _)
        (show sound_body.sl.v295 m ρ c fv = _ from load_v m ρ c 4 _ rfl _ _ _ _ _) rfl rfl rfl
    · exact is_head m ρ c 3 hr hr1 hr2 (show sound_body.sl.v250 m ρ c fk = _ from load_k m ρ c 3 _ rfl _ _ _ _ _)
        (show sound_body.sl.v252 m ρ c fv = _ from load_v m ρ c 3 _ rfl _ _ _ _ _) rfl rfl rfl
    · exact is_head m ρ c 2 hr hr1 hr2 (show sound_body.sl.v207 m ρ c fk = _ from load_k m ρ c 2 _ rfl _ _ _ _ _)
        (show sound_body.sl.v209 m ρ c fv = _ from load_v m ρ c 2 _ rfl _ _ _ _ _) rfl rfl rfl
    · exact is_head m ρ c 1 hr hr1 hr2 (show sound_body.sl.v164 m ρ c fk = _ from load_k m ρ c 1 _ rfl _ _ _ _ _)
        (show sound_body.sl.v166 m ρ c fv = _ from load_v m ρ c 1 _ rfl _ _ _ _ _) rfl rfl rfl
    · exact is_head m ρ c 0 hr hr1 hr2 (show sound_body.sl.v121 m ρ c fk = _ from load_k m ρ c 0 _ rfl _ _ _ _ _)
        (show sound_body.sl.v123 m ρ c fv = _ from load_v m ρ c 0 _ rfl _ _ _ _ _) rfl rfl rfl
  clear hf0
  ihave HX := pts_name $$ Hk
  icases HX with ⟨%f8, -, Hk⟩
  ihave HX := pts_name $$ Hv
  icases HX with ⟨%f9, -, Hv⟩
  ihave HX := (owes_any _ _ _) $$ HO
  icases HX with ⟨%W0, HO⟩
  ihave Hs0 := (part_source c f0) $$ Hp
  -- the exchange
  simp only [k0_part16_eq_skeleton, k0_part17_eq_skeleton, k0_part18_eq_skeleton, k0_part19_eq_skeleton]
  unfold k0_part16_skel k0_part17_skel k0_part18_skel k0_part19_skel
  simp only [Prog.lift, Prog.bind_op, Prog.bind_ret, Prog.pure_eq_ret]
  -- step 0: the copy to the right neighbour
  iapply (wp_send_ring m ρ 0 c _ (dev3_eq c) (K (c, 1)) (K (rgt c, 4)) f0 hgood n0 (O₄ c) (O₃ c) rfl W0) $$ [Hs0 Hn0 HO Hts0 Htr0]
  · isplitr; · iexact HIs0
    isplitr; · iexact HIr0R
    isplitl [Hs0]; · iexact Hs0
    isplitl [Hn0]; · iexact Hn0
    isplitl [HO]; · iexact HO
    isplitl [Hts0]; · iexact Hts0
    isplitr; · iexact Hms0
    isplitl [Htr0]; · iexact Htr0
    iexact Hmr0
  iintro ⟨HcS0, HO⟩
  -- its source back
  iapply (Rounds.wp_wait_rest_token 𝒱₀ ER (ringRd m ρ) (c : Thread nD τ) none (κ := K (c, 1))
      (wpE_waitDma2_eq 𝒱₀ (c : Thread nD τ) none Set.univ) (Set.mem_univ _) () (O := O₃ c) (W := W0) (R := 0) (m := 0) (T := ∅)
      (by rw [Nat.zero_add]; exact (expect_send m ρ 0 c).symm)) $$ [HcS0 HO HatS0]
  · isplitr; · iexact HIs0
    isplitl [HcS0]; · iexact HcS0
    isplitl [HO]; · iexact HO
    isplitr; · iapply (mayWait_send 0 c _ _ (above_O₃ c)); iexact Hlev
    iexact HatS0
  iintro ⟨HO, HatS0, -, Hpay⟩
  ihave Hpay := (Entails.of_eq (rest_send m ρ 0 c)) $$ Hpay
  unfold sendPay
  icases Hpay with ⟨%s0, %hs0, Hs0⟩
  -- the left neighbour's slot 0
  iapply (Rounds.wp_wait_rest_token 𝒱₀ ER (ringRd m ρ) (c : Thread nD τ) none (κ := K (c, 4))
      (wpE_waitDma2_eq 𝒱₀ (c : Thread nD τ) none Set.univ) (Set.mem_univ _) () (O := O₃ c) (R := 0) (m := 0) (T := ∅)
      (by rw [Nat.zero_add]; exact (expect_recv m ρ 0 c).symm)) $$ [HcR0 HO HatR0]
  · isplitr; · iexact HIr0
    isplitl [HcR0]; · iexact HcR0
    isplitl [HO]; · iexact HO
    isplitr; · iapply (mayWait_recv 0 c _ (above_O₃ c)); iexact Hlev
    iexact HatR0
  iintro ⟨HO, HatR0, -, Hpay⟩
  ihave Hpay := (Entails.of_eq (rest_recv m ρ 0 c)) $$ Hpay
  unfold recvPay
  icases Hpay with ⟨%f1, %hf1, Hs1⟩
  ihave HX := (owes_any _ _ _) $$ HO
  icases HX with ⟨%W1, HO⟩
  -- step 1: the copy to the right neighbour
  iapply (wp_send_ring m ρ 1 c _ (dev4_eq c) (K (c, 2)) (K (rgt c, 5)) f1 hf1 n1 (O₃ c) (O₂ c) rfl W1) $$ [Hs1 Hn1 HO Hts1 Htr1]
  · isplitr; · iexact HIs1
    isplitr; · iexact HIr1R
    isplitl [Hs1]; · iapply (slot_source0 c f1); iexact Hs1
    isplitl [Hn1]; · iexact Hn1
    isplitl [HO]; · iexact HO
    isplitl [Hts1]; · iexact Hts1
    isplitr; · iexact Hms1
    isplitl [Htr1]; · iexact Htr1
    iexact Hmr1
  iintro ⟨HcS1, HO⟩
  -- its source back
  iapply (Rounds.wp_wait_rest_token 𝒱₀ ER (ringRd m ρ) (c : Thread nD τ) none (κ := K (c, 2))
      (wpE_waitDma2_eq 𝒱₀ (c : Thread nD τ) none Set.univ) (Set.mem_univ _) () (O := O₂ c) (W := W1) (R := 0) (m := 0) (T := ∅)
      (by rw [Nat.zero_add]; exact (expect_send m ρ 1 c).symm)) $$ [HcS1 HO HatS1]
  · isplitr; · iexact HIs1
    isplitl [HcS1]; · iexact HcS1
    isplitl [HO]; · iexact HO
    isplitr; · iapply (mayWait_send 1 c _ _ (above_O₂ c)); iexact Hlev
    iexact HatS1
  iintro ⟨HO, HatS1, -, Hpay⟩
  ihave Hpay := (Entails.of_eq (rest_send m ρ 1 c)) $$ Hpay
  unfold sendPay
  icases Hpay with ⟨%s1, %hs1, Hs1⟩
  -- the left neighbour's slot 1
  iapply (Rounds.wp_wait_rest_token 𝒱₀ ER (ringRd m ρ) (c : Thread nD τ) none (κ := K (c, 5))
      (wpE_waitDma2_eq 𝒱₀ (c : Thread nD τ) none Set.univ) (Set.mem_univ _) () (O := O₂ c) (R := 0) (m := 0) (T := ∅)
      (by rw [Nat.zero_add]; exact (expect_recv m ρ 1 c).symm)) $$ [HcR1 HO HatR1]
  · isplitr; · iexact HIr1
    isplitl [HcR1]; · iexact HcR1
    isplitl [HO]; · iexact HO
    isplitr; · iapply (mayWait_recv 1 c _ (above_O₂ c)); iexact Hlev
    iexact HatR1
  iintro ⟨HO, HatR1, -, Hpay⟩
  ihave Hpay := (Entails.of_eq (rest_recv m ρ 1 c)) $$ Hpay
  unfold recvPay
  icases Hpay with ⟨%f2, %hf2, Hs2⟩
  ihave HX := (owes_any _ _ _) $$ HO
  icases HX with ⟨%W2, HO⟩
  -- step 2: the copy to the right neighbour
  iapply (wp_send_ring m ρ 2 c _ (dev5_eq c) (K (c, 3)) (K (rgt c, 6)) f2 hf2 n2 (O₂ c) (0) (zero_add _).symm W2) $$ [Hs2 Hn2 HO Hts2 Htr2]
  · isplitr; · iexact HIs2
    isplitr; · iexact HIr2R
    isplitl [Hs2]; · iapply (slot_source1 c f2); iexact Hs2
    isplitl [Hn2]; · iexact Hn2
    isplitl [HO]; · iexact HO
    isplitl [Hts2]; · iexact Hts2
    isplitr; · iexact Hms2
    isplitl [Htr2]; · iexact Htr2
    iexact Hmr2
  iintro ⟨HcS2, HO⟩
  -- its source back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (W := W2) (R := 0) (m := 0) (T := ∅)
      (by rw [Nat.zero_add]; exact (expect_send m ρ 2 c).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hpay := (Entails.of_eq (rest_send m ρ 2 c)) $$ Hpay
  unfold sendPay
  icases Hpay with ⟨%s2, %hs2, Hs2⟩
  -- the left neighbour's slot 2
  iapply (Rounds.wp_wait_rest_token 𝒱₀ ER (ringRd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ 2 c).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hpay := (Entails.of_eq (rest_recv m ρ 2 c)) $$ Hpay
  unfold recvPay
  icases Hpay with ⟨%f3, %hf3, Hg2⟩
  ihave HX := (owes_any _ _ _) $$ HO
  icases HX with ⟨%W3, HO⟩
  -- the cells close: their counters at zero are the core's again
  imod (Rounds.cell_close ER (ringRd m ρ) (Set.mem_univ (K (c, 0))) (fun h => h) (R := 0 + 1) (duties_later m ρ (barCell c))) $$ [HatB] with HzB
  · isplitr; · iexact HIb
    iexact HatB
  imod (Rounds.cell_close ER (ringRd m ρ) (Set.mem_univ (K (c, 1))) (fun h => h) (R := 0 + 1) (duties_later m ρ (sendCell 0 c))) $$ [HatS0] with HzS0
  · isplitr; · iexact HIs0
    iexact HatS0
  imod (Rounds.cell_close ER (ringRd m ρ) (Set.mem_univ (K (c, 2))) (fun h => h) (R := 0 + 1) (duties_later m ρ (sendCell 1 c))) $$ [HatS1] with HzS1
  · isplitr; · iexact HIs1
    iexact HatS1
  imod (Rounds.cell_close ER (ringRd m ρ) (Set.mem_univ (K (c, 3))) (fun h => h) (R := 0 + 1) (duties_later m ρ (sendCell 2 c))) $$ [HatS2] with HzS2
  · isplitr; · iexact HIs2
    iexact HatS2
  imod (Rounds.cell_close ER (ringRd m ρ) (Set.mem_univ (K (c, 4))) (fun h => h) (R := 0 + 1) (duties_later m ρ (recvCell 0 c))) $$ [HatR0] with HzR0
  · isplitr; · iexact HIr0
    iexact HatR0
  imod (Rounds.cell_close ER (ringRd m ρ) (Set.mem_univ (K (c, 5))) (fun h => h) (R := 0 + 1) (duties_later m ρ (recvCell 1 c))) $$ [HatR1] with HzR1
  · isplitr; · iexact HIr1
    iexact HatR1
  imod (Rounds.cell_close ER (ringRd m ρ) (Set.mem_univ (K (c, 6))) (fun h => h) (R := 0 + 1) (duties_later m ρ (recvCell 2 c))) $$ [HatR2] with HzR2
  · isplitr; · iexact HIr2
    iexact HatR2
  -- the loads and the store
  unfold sPts gPts
  iapply (wp_load 𝒱₀ (c : Thread nD τ) none Set.univ (m := pM) (by rw [show (sM 0).view.set = Finset.univ from View.set_whole _]; exact Finset.subset_univ _)) $$ Hs0
  iintro Hs0
  iapply (wp_load_rect 𝒱₀ (c : Thread nD τ) none Set.univ (m := gW) (slot_access 0)) $$ Hs1
  iintro Hs1
  iapply (wp_load_rect 𝒱₀ (c : Thread nD τ) none Set.univ (m := gW) (slot_access 1)) $$ Hs2
  iintro Hs2
  iapply (wp_load_rect 𝒱₀ (c : Thread nD τ) none Set.univ (m := gW) (slot_access 2)) $$ Hg2
  iintro Hg2
  iapply (wp_load 𝒱₀ (c : Thread nD τ) none Set.univ (m := (Memref.whole cc0_stg3_0)) (Finset.subset_univ _)) $$ Hout
  iintro Hout
  iapply (wp_store 𝒱₀ (c : Thread nD τ) none Set.univ (m := (Memref.whole cc0_stg3_0))
      (r := Rect.unit (s := S8x1x8x128) ![0, 0, 0, 0] S8x1x8x128.size inb_S8x1x8x128_S8x1x8x128_0_0_0_0) (Mk := Finset.univ) (Finset.subset_univ _)) $$ Hout
  iintro Hout
  rw [wp_ret]; imodintro
  ihave HX := pts_name $$ Hout
  icases HX with ⟨%o, %ho, Hout⟩
  have ho' : o = outAt m ρ c := by
    refine ho.trans ((Memref.write_access_unit_zero_univ (Elt F) cc0_stg3_0 hz4 _ _ _).trans (combine_congr _ _ _ _ _ _ _ _ ?_ ?_ ?_ ?_))
    · intro i hi
      exact (congrFun (Memref.readAt_unit_zero (Elt F) cc0_scratch0 hz3 _ _) i).trans (hs0 i hi)
    · exact slot_lanes m ρ (back 1 c) _ _ (fun _ => rfl) s1 hs1
    · exact slot_lanes m ρ (back 2 c) _ _ (fun _ => rfl) s2 hs2
    · exact slot_lanes m ρ (back 3 c) _ _ (fun _ => rfl) f3 hf3
  ihave Hg := (gather_join c s1 s2 f3) $$ [Hs1 Hs2 Hg2]
  · unfold gPts
    isplitl [Hs1]; · iexact Hs1
    isplitl [Hs2]; · iexact Hs2
    iexact Hg2
  iapply HKt
  unfold bodyPost Φ₁ pools scratch copies xfers Dat.owesAt Pipeline.owesWithin
  rw [show (dats m ρ 0 c).owed t0_0.succ = 0 from rfl]
  isplitl [HK HV Hs0 Hg Hk Hv Hc0 Hc1 HzB HzS0 HzS1 HzS2 HzR0 HzR1 HzR2]
  · isplitl [HK HV]
    · isplitl [HK]; · iexact HK
      iexact HV
    isplitl [Hs0 Hg Hk Hv]
    · isplitl [Hs0]
      · iexists s0
        rw [show (sM 0).view.set = Finset.univ from View.set_whole _]
        iexact Hs0
      isplitl [Hg]; · iexact Hg
      isplitl [Hk]; · iexists f8; iexact Hk
      iexists f9; iexact Hv
    isplitl [Hc0 Hc1]
    · isplitl [Hc0]; · iexact Hc0
      iexact Hc1
    isplitr [HzB]
    · isplitl [HzS0]; · iexact HzS0
      isplitl [HzS1]; · iexact HzS1
      isplitl [HzS2]; · iexact HzS2
      isplitl [HzR0]; · iexact HzR0
      isplitl [HzR1]; · iexact HzR1
      iexact HzR2
    iexact HzB
  isplitl [HO]
  · iexists W3
    isplitr; · ipureintro; exact fun _ _ => Or.inl trivial
    iexact HO
  isplitl [Hq]
  · iexists _; isplitr; · (ipureintro; rfl)
    iexact Hq
  isplitl [Hbt]
  · iexists _; isplitr; · (ipureintro; rfl)
    iexact Hbt
  isplitl [Hln]
  · iexists _; isplitr; · (ipureintro; rfl)
    iexact Hln
  iexists o; isplitr; · (ipureintro; exact ho')
  iexact Hout

end Body

/-! ## The body obligation -/

/-- The body's start as the launch hands it over. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

theorem before_0 (c : Dev nD) (d) : (dats (F := F) m ρ 0 c).before (0 : Fin 4) t0_0 d = qstg m ρ c := by
  unfold Dat.before; rw [if_pos (fetch0_0 t0_0)]; rfl
theorem before_1 (c : Dev nD) (d) : (dats (F := F) m ρ 0 c).before (1 : Fin 4) t0_0 d = bstg m ρ c := by
  unfold Dat.before; rw [if_pos (fetch0_1 t0_0)]; rfl
theorem before_2 (c : Dev nD) (d) : (dats (F := F) m ρ 0 c).before (2 : Fin 4) t0_0 d = lstg m ρ c := by
  unfold Dat.before; rw [if_pos (fetch0_2 t0_0)]; rfl

/-- The body meets the obligation the launch puts on it, on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole main_arg1) (Memref.isWhole_whole _) (Memref.whole main_arg2) (Memref.isWhole_whole _)
      (Memref.whole cc0_stg1_0) (Memref.isWhole_whole _) (Memref.whole cc0_stg2_0) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost m ρ c)
  unfold bodyPre' Φ₀ start
  simp only [before_0, before_1, before_2]
  iintro ⟨⟨⟨⟨%K, Hg⟩, Hrest⟩, Hscr⟩, Ho, ⟨%d0, Hq⟩, ⟨%d1, Hb⟩, ⟨%d2, Hl⟩, Hout⟩
  iapply (sound_body m ρ K c fun _ => bodyPost m ρ c)
  unfold bodyPre
  isplitr []
  · isplitl [Hg Hrest]
    · isplitl [Hg]; · iexact Hg
      iexact Hrest
    isplitl [Hscr]; · iexact Hscr
    isplitl [Ho]; · iexact Ho
    isplitl [Hq]; · iexact Hq
    isplitl [Hb]; · iexact Hb
    isplitl [Hl]; · iexact Hl
    icases Hout with ⟨%d, Hout⟩
    iexists _; iexact Hout
  · iintro H; iexact H

end Cert.KernelIdeal.Ring

end
-- ==== Proof.RunIdeal.lean ====
/-
# `RunIdeal`: the launch of the kernel on all thirty-two devices, and what every run ends with
-/
module

public import proofs.«01_k».proof.Proof.BodyIdeal
public import Idealize.ShloMosaic.Lib.Pipeline.CollectiveSegs

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide +kernel

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  subst h1 h2; rfl
/-- All cells of the ring. -/
def ringCells : Finset (GSem nD τ sig) := Finset.univ.map ⟨kcell, kcell_injective⟩

/-- The duties of a device's own cells: which cell, which duty. -/
abbrev dutyIx : Fin 8 → Fin 7 × Bool := fun
  | 0 => (0, true) | 1 => (0, false) | 2 => (1, false) | 3 => (2, false) | 4 => (3, false)
  | 5 => (4, false) | 6 => (5, false) | 7 => (6, false)
theorem dutyIx_injective : Function.Injective dutyIx := by decide +kernel
abbrev tokOf (cj : Dev nD × Fin 8) : GSem nD τ sig × ℕ × Bool := (kcell (cj.1, (dutyIx cj.2).1), 0, (dutyIx cj.2).2)
theorem tokOf_injective : Function.Injective (tokOf : Dev nD × Fin 8 → GSem nD τ sig × ℕ × Bool) := by
  rintro ⟨c, j⟩ ⟨c', j'⟩ h
  have h1 := kcell_injective (congrArg Prod.fst h)
  have h2 : j = j' := dutyIx_injective (Prod.ext (congrArg Prod.snd h1) (congrArg (fun x : GSem nD τ sig × ℕ × Bool => x.2.2) h))
  have h3 : c = c' := congrArg Prod.fst h1
  subst h2 h3; rfl
/-- All duty tokens of the ring. -/
def ringToks : Finset (GSem nD τ sig × ℕ × Bool) := Finset.univ.map ⟨tokOf, tokOf_injective⟩

/-- The launch element: the staging cells' rounds and the ring's, nothing for the local copies. -/
def u₀ : UU :=
  (initOf (Pipeline.cells cfgs cellOf_inj) (Pipeline.launchToks cfgs cellOf_inj), (initOf ringCells ringToks, 1))

/-- It splits into the two rounds' elements. -/
theorem launch_split (a : UR sig nD τ) (b : UB) :
    (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop(dutyTok ER (barCell c) 0 true ∗ dutyTok ER (barCell c) 0 false
    ∗ dutyTok ER (sendCell 0 c) 0 false ∗ dutyTok ER (sendCell 1 c) 0 false ∗ dutyTok ER (sendCell 2 c) 0 false
    ∗ dutyTok ER (recvCell 0 c) 0 false ∗ dutyTok ER (recvCell 1 c) 0 false ∗ dutyTok ER (recvCell 2 c) 0 false)

/-- What the launch element deals device `c`. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop((∃ K, ghost m ρ K c) ∗ copies c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The local copies', the send and the receive semaphores are the kernel's own eight; -/
theorem ownSems0_eq (c : Dev nD) : (Pipeline.ownSems0 (Ix := Unit) (Name := ℕ) (U := UU) (Lvl := ℕ) (Val := Elt F) (τ := τ) osem c : sProp 𝕄)
    = iprop(semVal (copyCell 0 c) 0 ∗ semVal (copyCell 1 c) 0 ∗ xfers c) := by
  rw [Pipeline.ownSems0_eq_of_list c osem [0, 1, 2, 3, 4, 5, 6, 7] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0 : sProp 𝕄) ∗ copies c) := by
  rw [ownSems0_eq, unscopedSems0_eq, bigSep_fin7]
  unfold copies xfers
  iintro ⟨⟨H0, H1, HX⟩, HB⟩
  isplitl [HX HB]
  · isplitl [HB]; · iexact HB
    iexact HX
  isplitl [H0]; · iexact H0
  iexact H1

/-- On each device the seven counters become the seven cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ copies c) := by
  unfold G
  iintro ⟨Hos, Hus, Hst, Hat, Htok⟩
  ihave Hv := (sems0_eq (F := F) c) $$ [Hos Hus]
  · isplitl [Hos] <;> iassumption
  icases Hv with ⟨Hv, Hcp⟩
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-- Every cell's invariant and mark. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem ghost_intro (K : Dev nD × Fin 7 → ℕ) (c : Dev nD) : iprop(records m ρ K ∗ ((spots c ∗ duties c) ∗ copies c)) ⊢ G' m ρ c := by
  unfold records G' ghost invs marks
  iintro ⟨⟨#HI, #HR⟩, ⟨Hs, Hd⟩, Hc⟩
  isplitr [Hc]
  · iexists K
    isplitr
    · isplitr; · iapply (inv_at m ρ K (c, 0)); iexact HI
      isplitr; · iapply (inv_at m ρ K (c, 1)); iexact HI
      isplitr; · iapply (inv_at m ρ K (c, 2)); iexact HI
      isplitr; · iapply (inv_at m ρ K (c, 3)); iexact HI
      isplitr; · iapply (inv_at m ρ K (c, 4)); iexact HI
      isplitr; · iapply (inv_at m ρ K (c, 5)); iexact HI
      isplitr; · iapply (inv_at m ρ K (c, 6)); iexact HI
      isplitr; · iapply (inv_at m ρ K (rgt c, 0)); iexact HI
      isplitr; · iapply (inv_at m ρ K (lft c, 0)); iexact HI
      isplitr; · iapply (inv_at m ρ K (rgt c, 4)); iexact HI
      isplitr; · iapply (inv_at m ρ K (rgt c, 5)); iexact HI
      iapply (inv_at m ρ K (rgt c, 6)); iexact HI
    isplitr
    · isplitr; · iapply (reached_at (F := F) (lft c, 0)); iexact HR
      isplitr; · iapply (reached_at (F := F) (rgt c, 0)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (rgt c, 4)); iexact HR
      isplitr; · iapply (reached_at (F := F) (rgt c, 5)); iexact HR
      iapply (reached_at (F := F) (rgt c, 6)); iexact HR
    isplitl [Hs]; · iexact Hs
    iexact Hd
  iexact Hc

/-- The tokens dealt around the ring: a barrier's `true` token one device to the right, its `false` token and the
    receive tokens one device to the left. -/
theorem toks_around : (bigSep Finset.univ fun c : Dev nD => (toks c : sProp 𝕄)) ⊢ bigSep Finset.univ fun c : Dev nD => duties c := by
  unfold toks duties
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (recvCell 0 c) 0 false : sProp 𝕄)),
    bigSep_univ_equiv ring (fun c : Dev nD => (dutyTok ER (recvCell 1 c) 0 false : sProp 𝕄)),
    bigSep_univ_equiv ring (fun c : Dev nD => (dutyTok ER (recvCell 2 c) 0 false : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem spots_intro : (bigSep Finset.univ fun c : Dev nD => bigSep Finset.univ fun k : Fin 7 => (atPos ER (kcell (c, k)) 0 ∅ 0 : sProp 𝕄))
    ⊢ bigSep Finset.univ fun c : Dev nD => spots c :=
  bigSep_mono fun c _ => show (bigSep Finset.univ fun k : Fin 7 => (atPos ER (kcell (c, k)) 0 ∅ 0 : sProp 𝕄)) ⊢ spots c from
    Entails.of_eq (by unfold spots; rw [bigSep_fin7])

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ copies c) : sProp 𝕄)
      ⊢ bigSep Finset.univ (G' m ρ) := by
  rw [bigSep_sep', bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hcp⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep', bigSep_sep']
    isplitl [Hat Htk]
    · isplitl [Hat]
      · iapply (spots_intro (F := F))
        iexact Hat
      iexact Htk
    iexact Hcp

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recvS_injective : Function.Injective (fun k : Fin 3 => (recvS k : DmaSem sig)) := by decide +kernel

theorem bar_eq_iff {a b : Dev nD} : Iff (barCell a = barCell b) (a = b) :=
  ⟨fun h => congrArg (fun g : GSem nD τ sig => g.1.1) h, fun h => h ▸ rfl⟩
theorem recv_eq_iff {j k : Fin 3} {a b : Dev nD} : Iff (recvCell j a = recvCell k b) (j = k ∧ a = b) :=
  ⟨fun h => ⟨recvS_injective (by have := congrArg (fun g : GSem nD τ sig => g.2) h; exact SemLoc.dma.inj this), congrArg (fun g : GSem nD τ sig => g.1.1) h⟩,
    fun h => by rw [h.1, h.2]⟩
theorem rgt_eq_iff {d c : Dev nD} : Iff (rgt d = c) (d = lft c) := ⟨fun h => by rw [← h, lft_rgt], fun h => by rw [h, rgt_lft]⟩
theorem lft_eq_iff {d c : Dev nD} : Iff (lft d = c) (d = rgt c) := ⟨fun h => by rw [← h, rgt_lft], fun h => by rw [h, lft_rgt]⟩

/-- What device `d` owes device `c`'s receive cell `k` through step `j`; -/
theorem owR_recv (j k : Fin 3) (d c : Dev nD) : owR j d (recvCell k c) () = if j = k ∧ d = lft c then N else 0 := by
  unfold owR
  rw [tallyAt_apply]
  exact if_congr ⟨fun h => ⟨(recv_eq_iff.mp h.1.symm).1, rgt_eq_iff.mp (recv_eq_iff.mp h.1.symm).2⟩,
    fun h => ⟨(recv_eq_iff.mpr ⟨h.1, rgt_eq_iff.mpr h.2⟩).symm, rfl⟩⟩ rfl rfl
theorem owR_bar (j : Fin 3) (d c : Dev nD) : owR j d (barCell c) () = 0 := by
  unfold owR
  rw [tallyAt_ne_cell (fun h => recv_ne_bar j (congrArg Prod.snd h).symm), Finsupp.zero_apply]
theorem bar_recv (k : Fin 3) (d c : Dev nD) : (tallyAt (barCell d) () 1 : CellTallies nD τ sig Unit) (recvCell k c) () = 0 := by
  rw [tallyAt_ne_cell (fun h => recv_ne_bar k (congrArg Prod.snd h)), Finsupp.zero_apply]

/-- in all, to a barrier cell: a unit from the left neighbour, a unit from the right one; -/
theorem owed_bar (d c : Dev nD) : O₀ d (barCell c) () = (if d = lft c then 1 else 0) + (if d = rgt c then 1 else 0) := by
  unfold O₀ O₅ O₄ O₃ O₂
  rw [Pi.add_apply, Finsupp.add_apply, Pi.add_apply, Finsupp.add_apply, Pi.add_apply, Finsupp.add_apply, Pi.add_apply, Finsupp.add_apply,
    owR_bar, owR_bar, owR_bar, tallyAt_apply, tallyAt_apply, Nat.zero_add]
  congr 1
  · exact if_congr ⟨fun h => rgt_eq_iff.mp (bar_eq_iff.mp h.1).symm, fun h => ⟨(bar_eq_iff.mpr (rgt_eq_iff.mpr h)).symm, rfl⟩⟩ rfl rfl
  · exact if_congr ⟨fun h => lft_eq_iff.mp (bar_eq_iff.mp h.1).symm, fun h => ⟨(bar_eq_iff.mpr (lft_eq_iff.mpr h)).symm, rfl⟩⟩ rfl rfl

/-- to a receive cell: a slot's credit from the left neighbour. -/
theorem owed_recv (k : Fin 3) (d c : Dev nD) : O₀ d (recvCell k c) () = if d = lft c then N else 0 := by
  unfold O₀ O₅ O₄ O₃ O₂
  rw [Pi.add_apply, Finsupp.add_apply, Pi.add_apply, Finsupp.add_apply, Pi.add_apply, Finsupp.add_apply, Pi.add_apply, Finsupp.add_apply,
    owR_recv, owR_recv, owR_recv, bar_recv, bar_recv]
  by_cases h : d = lft c
  · fin_cases k <;> simp [h]
  · simp [h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (lft c) fun _ => N,
    if_pos (Finset.mem_univ _)]

/-- The launch's credit covers the body's waits. -/
theorem creds (c : Dev nD) : (Pipeline.launchCred O₀ c : sProp 𝕄) ⊢ wages c := by
  have hne {j k : Fin 3} (h : j ≠ k) : (SemLoc.dma (recvS j) : SemLoc sig) ≠ .dma (recvS k) := fun h' => h (recvS_injective (SemLoc.dma.inj h'))
  unfold Pipeline.launchCred wages
  rw [bigSep_univ_at _ (SemLoc.reg barS), launch_bar]
  refine sep_mono_right ?_
  rw [bigSep_erase (i := SemLoc.dma (recvS 0)) (Finset.mem_erase.mpr ⟨recv_ne_bar 0, Finset.mem_univ _⟩), launch_recv]
  refine sep_mono_right ?_
  rw [bigSep_erase (i := SemLoc.dma (recvS 1)) (Finset.mem_erase.mpr ⟨hne (by decide), Finset.mem_erase.mpr ⟨recv_ne_bar 1, Finset.mem_univ _⟩⟩), launch_recv]
  refine sep_mono_right ?_
  rw [← launch_recv]
  exact bigSep_elim (Finset.mem_erase.mpr ⟨hne (by decide), Finset.mem_erase.mpr ⟨hne (by decide), Finset.mem_erase.mpr ⟨recv_ne_bar 2, Finset.mem_univ _⟩⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hk, Hv⟩, Hlev, Hcr, -, HG⟩
  ihave Hc := (creds (F := F) c) $$ Hcr
  imodintro
  unfold start G' pools
  icases HG with ⟨Hg, Hcp⟩
  isplitl
  · isplitl [Hg]; · iexact Hg
    isplitl [Hc]; · iexact Hc
    isplitl [Hlev]; · iexact Hlev
    isplitl [Hk Hv]
    · isplitl [Hk]; · iexact Hk
      iexact Hv
    iexact Hcp
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((pools m ρ c ∗ unscopedSems0 c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ copies scratch
  iintro ⟨Hp, Hr, ⟨H0, H1⟩, HX, HB⟩
  isplitl [Hp HB]
  · isplitl [Hp] <;> iassumption
  isplitl [H0 H1 HX]
  · isplitl [H0]; · iexact H0
    isplitl [H1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds at the end. -/
def finalA (c : Dev nD) (w : Fin cfg0.W) : Buf (Elt F) ((cfg0.win w).arr.view.loc (c : Thread nD τ)) := (dats m ρ 0 c).arrAt w cfg0.N

/-- The pools and the barrier counter are read off the final memory. -/
theorem pools_read (c : Dev nD) (s' : Phys nD τ sig (Elt F)) :
    iprop((pools m ρ c ∗ unscopedSems0 c) ∗ SI s')
      ⊢ (|={Set.univ}=> iprop(⌜(s'.mem.mem ((c : Thread nD τ).loc main_arg1) = m ((c : Thread nD τ).loc main_arg1)
            ∧ s'.mem.mem ((c : Thread nD τ).loc main_arg2) = m ((c : Thread nD τ).loc main_arg2))
          ∧ ∀ sm : SemLoc sig, sm.isScoped .tc = false → s'.mem.sem ((c.tc : Thread nD τ), sm) = 0⌝ ∗ SI s') : sProp 𝕄) := by
  unfold pools
  iintro ⟨⟨⟨Hk, Hv⟩, Hu⟩, HSI⟩
  icombine HSI Hk gives %hk
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro; exact ⟨⟨Buf.eq_of_forall_mem_univ hk, Buf.eq_of_forall_mem_univ hv⟩, hu⟩
  iexact HSI

/-- The final states: the windows' arrays at their computed contents, the pools unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)
    ∧ r.2.mem ((c : Thread nD τ).loc main_arg2) = m ((c : Thread nD τ).loc main_arg2)

/-- At the whole mesh, for any float values, from any memory with zero counters: every fair execution of the kernel on
    all devices terminates; at the end each device's result array holds the computed contents, every argument is
    unchanged and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (launch_split _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(pools m ρ c ∗ unscopedSems0 c)) (Z := fun _ => iprop(emp))
    (hX := start_intro m ρ) (hin := phi0_intro m ρ) (hout := phi1_exit m ρ)
    (QY := fun c s => (s.mem ((c : Thread nD τ).loc main_arg1) = m ((c : Thread nD τ).loc main_arg1)
        ∧ s.mem ((c : Thread nD τ).loc main_arg2) = m ((c : Thread nD τ).loc main_arg2))
      ∧ ∀ sm : SemLoc sig, sm.isScoped .tc = false → s.sem ((c.tc : Thread nD τ), sm) = 0)
    (hY := fun c s' => by
      iintro ⟨⟨Hp, Hu⟩, -, HSI⟩
      iapply (pools_read m ρ c s')
      isplitl [Hp Hu]
      · isplitl [Hp] <;> iassumption
      iexact HSI)
    (hQ := fun _ h hs => ⟨fun c => ⟨(h c).1, (h c).2.2.1⟩, sem_eq_zero hs fun c => (h c).2.2.2⟩)

end Cert.KernelIdeal.Ring

end
-- ==== Proof.EndsIdeal.lean ====
/-
# `EndsIdeal`: what the arguments and the result hold at the end of every run
-/
module

public import proofs.«01_k».proof.Proof.RunIdeal
public import Idealize.ShloMosaic.Lib.Pipeline.ValueKit

@[expose] public section

set_option maxRecDepth 16384

noncomputable section

namespace Cert.KernelIdeal.Ring

open Cert.KernelIdeal Cert.KernelIdeal.Gen

open Idealize.ShloMosaic
open Idealize.ShloMosaic.TcCoe
open Idealize.SL.Sem
open Idealize.ShloMosaic.Pipeline (Dat)

variable {F : FTy → Type} [FloatOps F] [Named F]

variable (m : (ℓ : Loc nD τ sig) → Buf (Elt F) ℓ) (ρ : Dev nD → PrngReg)

/-- A window that is only read leaves its array as it was. -/
theorem finalA_q (c : Dev nD) : finalA m ρ c (0 : Fin 4) = m ((c : Thread nD τ).loc main_arg0) := (dats m ρ 0 c).arrAt_in (0 : Fin 4) rfl _
theorem finalA_bt (c : Dev nD) : finalA m ρ c (1 : Fin 4) = m ((c : Thread nD τ).loc main_arg3) := (dats m ρ 0 c).arrAt_in (1 : Fin 4) rfl _
theorem finalA_lens (c : Dev nD) : finalA m ρ c (2 : Fin 4) = m ((c : Thread nD τ).loc main_arg4) := (dats m ρ 0 c).arrAt_in (2 : Fin 4) rfl _

/-- The result array ends holding the combined partial results: one point writes all of it. -/
theorem finalA_out (c : Dev nD) : finalA m ρ c (3 : Fin 4) = outAt m ρ c := by
  refine (dats m ρ 0 c).arrAt_eq_of_after_last (3 : Fin 4) t0_0 (by decide +kernel) _ fun j => ?_
  blk_simp
  rfl

/-- The staged queries, table and lengths are the argument arrays themselves. -/
theorem qstg_eq (c : Dev nD) : qstg m ρ c = m ((c : Thread nD τ).loc main_arg0) := by
  funext i
  unfold qstg s₀
  blk_ext <;> first | rfl | exact Nat.add_eq_right.2 rfl
theorem bstg_eq (c : Dev nD) : bstg m ρ c = m ((c : Thread nD τ).loc main_arg3) := by
  funext i
  unfold bstg s₀
  blk_ext <;> first | rfl | exact Nat.add_eq_right.2 rfl
theorem lstg_eq (c : Dev nD) : lstg m ρ c = m ((c : Thread nD τ).loc main_arg4) := by
  funext i
  unfold lstg s₀
  blk_ext <;> first | rfl | exact Nat.add_eq_right.2 rfl

/-- Every fair execution terminates with all five arguments unchanged and every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 4)).trans (finalA_q m ρ c), (h.1 c).2.1, (h.1 c).2.2,
    ((h.1 c).1 (1 : Fin 4)).trans (finalA_bt m ρ c), ((h.1 c).1 (2 : Fin 4)).trans (finalA_lens m ρ c)⟩, h.2⟩) (run_main m ρ)

/-- Every fair execution terminates with the combined partial results in the result array of every device, and with all
    five arguments unchanged. -/
theorem run_out : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (3 : Fin 4)).trans (finalA_out m ρ c), ((h.1 c).1 (0 : Fin 4)).trans (finalA_q m ρ c),
    (h.1 c).2.1, (h.1 c).2.2, ((h.1 c).1 (1 : Fin 4)).trans (finalA_bt m ρ c), ((h.1 c).1 (2 : Fin 4)).trans (finalA_lens m ρ c)⟩) (run_main m ρ)

end Cert.KernelIdeal.Ring

end
-- ==== Proof.Frames.lean ====
/-
# `Frames`: the claims that the programs terminate and leave their arguments alone, and the claim about the named constant
-/
module

public import proofs.«01_k».proof.Defs
public import proofs.«01_k».proof.Proof.Ends
public import proofs.«01_k».proof.Proof.EndsIdeal
public import proofs.«01_k».proof.Proof.Gen.ReferenceIdeal.Run

@[expose] public section

noncomputable section

namespace Cert.Proof.Frames

open Idealize.ShloMosaic Idealize.SL.Sem

/-- The kernel as compiled: every fair execution ends with the arguments unchanged and every counter at zero. -/
theorem frame_p : Cert.quiescent_Kernel := fun m ρ _ => Cert.Kernel.Ring.run_args m ρ

/-- The idealized kernel: the same. -/
theorem frame_pi : Cert.quiescent_KernelIdeal := fun m ρ _ => Cert.KernelIdeal.Ring.run_args m ρ

/-- The reference has no semaphores, so its run leaves no counter other than zero. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference: every fair execution ends with the arguments unchanged and every counter at zero. -/
theorem frame_ri : Cert.quiescent_ReferenceIdeal := fun m ρ _ => run_ref m ρ

/-- The one replaced constant: the certificate's table gives `"scale"` the value `(√128)⁻¹`. -/
theorem preserves : Cert.preserves_Kernel_KernelIdeal :=
  IdealRules.named_const.statement Cert.KernelIdeal.κ "scale" .f32 0x3DB504F3#32 (((Real.sqrt 128)⁻¹ : ℝ) : EReal) rfl

end Cert.Proof.Frames

end
-- ==== Proof.PageWord.lean ====
/-
# `PageWord`: the page of a token, as the kernel computes it on 32-bit words
-/
module

public import Idealize.ShloMosaic.Lib.Pointwise

@[expose] public section

noncomputable section

namespace Cert.PageWord

open Idealize.ShloMosaic

/-- The floor division of a token's number by 16, as the kernel spells it, is its page. -/
theorem page_word (t : Fin 8192) : (Scalar.select
                (IntOp.andi
                  (IntOp.cmpi CmpIPredicate.ne
                    (IntOp.subi (BitVec.setWidth 32 (IntOp.cmpi CmpIPredicate.sgt (BitVec.ofNat 32 t.val) 0#32))
                      (BitVec.setWidth 32 (IntOp.cmpi CmpIPredicate.slt (BitVec.ofNat 32 t.val) 0#32)))
                    (Scalar.subi (Scalar.extui (Scalar.cmpi CmpIPredicate.sgt 16#32 0#32))
                      (Scalar.extui (Scalar.cmpi CmpIPredicate.slt 16#32 0#32))))
                  (IntOp.cmpi CmpIPredicate.ne (IntOp.remsi ArithUnit.vector (BitVec.ofNat 32 t.val) 16#32) 0#32))
                (IntOp.subi (IntOp.divsi ArithUnit.vector (BitVec.ofNat 32 t.val) 16#32) 1#32)
                (IntOp.divsi ArithUnit.vector (BitVec.ofNat 32 t.val) 16#32)) = BitVec.ofNat 32 (t.val / 16) := by
  revert t; decide +kernel

end Cert.PageWord

end
-- ==== Proof.Consts.lean ====
/-
# `Consts`: the float literals of both programs as extended reals
-/
module

public import Idealize.ShloMosaic.PureOps.Ideal

@[expose] public section

noncomputable section

namespace Cert.Consts

open Idealize.ShloMosaic

/-- The start of a running maximum. -/
theorem neg_inf : Ideal.ofBits .f32 0xFF800000#32 = ⊥ := by simp [Ideal.ofBits, Ideal.ieee]

/-- Infinity. -/
theorem pos_inf : Ideal.ofBits .f32 0x7F800000#32 = ⊤ := by simp [Ideal.ofBits, Ideal.ieee]

/-- One half. -/
theorem half : Ideal.ofBits .f32 0x3F000000#32 = ((1 / 2 : ℝ) : EReal) := by
  simp [Ideal.ofBits, Ideal.ieee, -EReal.coe_mul]; norm_num

/-- The number under the reference's root. -/
theorem dim : Ideal.ofBits .f32 0x43000000#32 = ((128 : ℝ) : EReal) := by
  simp [Ideal.ofBits, Ideal.ieee, -EReal.coe_mul]; norm_num

/-- The score that the kernel gives to a token that does not occur is a real number. -/
theorem mask_real : ∃ r : ℝ, Ideal.ofBits .f32 0xF149F2CA#32 = (r : EReal) := by
  simp only [Ideal.ofBits, Ideal.ieee]
  exact ⟨_, rfl⟩

end Cert.Consts

end
-- ==== Proof.Softmax.lean ====
/-
# `Softmax`: softmax-weighted sums of extended reals, without any program

The scores are real, the values are arbitrary extended reals. A softmax-weighted sum does not depend on the number that is
subtracted from the scores before exponentiating, and a token that occurs several times may be weighted by its count
instead of being summed several times.
-/
module

public import Idealize.ShloMosaic.PureOps.Ideal

@[expose] public section

noncomputable section

namespace Cert.Softmax

open Idealize.ShloMosaic

/-! ## Sums of extended reals -/

/-- A non-negative real factor goes into a sum of extended reals. -/
theorem coe_mul_sum {ι : Type*} (s : Finset ι) {r : ℝ} (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones and zeros counts. -/
theorem sum_ite_one {ι : Type*} (s : Finset ι) (p : ι → Prop) [DecidablePred p] :
    (∑ i ∈ s, if p i then (1 : EReal) else 0) = (((s.filter p).card : ℝ) : EReal) := by
  have h : (∑ i ∈ s, if p i then (1 : EReal) else 0) = ∑ i ∈ s, (((if p i then 1 else 0 : ℝ)) : EReal) :=
    Finset.sum_congr rfl fun i _ => by split <;> simp
  rw [h, ← coe_sum, Finset.sum_boole]

/-- A counted value is the value summed once for each thing that is counted. -/
theorem count_mul {ι : Type*} (s : Finset ι) (p : ι → Prop) [DecidablePred p] (e : ℝ) (z : EReal) :
    (((e * (s.filter p).card : ℝ)) : EReal) * z = ∑ i ∈ s, if p i then (e : EReal) * z else 0 := by
  rw [← Finset.sum_filter, Finset.sum_const, EReal.nsmul_eq_mul, EReal.coe_mul, mul_comm (e : EReal), mul_assoc]
  rfl

/-! ## Maxima -/

/-- The greatest of finitely many extended reals below `⊤`, one of them above `⊥`, is real. -/
theorem fold_max_real {ι : Type*} (s : Finset ι) (f : ι → EReal) (ht : ∀ i ∈ s, f i ≠ ⊤) (hb : ∃ i ∈ s, f i ≠ ⊥) :
    ∃ r : ℝ, s.fold max ⊥ f = (r : EReal) := by
  have htop : s.fold max ⊥ f ≠ ⊤ := ne_of_lt ((Finset.fold_max_lt _).2 ⟨bot_lt_top, fun i hi => lt_top_iff_ne_top.2 (ht i hi)⟩)
  have hbot : s.fold max ⊥ f ≠ ⊥ := by
    obtain ⟨i, hi, h⟩ := hb
    exact ne_of_gt ((Finset.lt_fold_max _).2 (.inr ⟨i, hi, bot_lt_iff_ne_bot.2 h⟩))
  exact ⟨(s.fold max ⊥ f).toReal, (EReal.coe_toReal htop hbot).symm⟩

/-- The greater of two reals. -/
theorem coe_max (a b : ℝ) : max (a : EReal) (b : EReal) = ((max a b : ℝ) : EReal) := EReal.coe_strictMono.monotone.map_max.symm

/-! ## One device -/

section Device
variable {T : Type*} [Fintype T] (x : T → ℝ) (n : T → ℕ) (a : T → EReal) (ha : ∀ t, n t ≠ 0 → a t = (x t : EReal)) (hr : ∀ t, ∃ r : ℝ, a t = (r : EReal)) (M : ℝ)
include ha hr

/-- The weight of a token: its exponential below `M`, times how often it occurs. A token that does not occur may have any real
    score. -/
theorem weight_eq (t : T) : Ideal.exp (a t - (M : EReal)) * ((n t : ℝ) : EReal) = ((Real.exp (-M) * (Real.exp (x t) * n t) : ℝ) : EReal) := by
  by_cases h : n t = 0
  · obtain ⟨r, hr⟩ := hr t
    rw [hr, ← EReal.coe_sub, Ideal.exp_coe, ← EReal.coe_mul, h]
    simp
  · rw [ha t h, ← EReal.coe_sub, Ideal.exp_coe, ← EReal.coe_mul, sub_eq_add_neg, Real.exp_add]
    congr 1; ring

/-- The sum of the weights. -/
theorem sum_eq : ∑ t, Ideal.exp (a t - (M : EReal)) * ((n t : ℝ) : EReal) = ((Real.exp (-M) * ∑ t, Real.exp (x t) * n t : ℝ) : EReal) := by
  rw [Finset.sum_congr rfl fun t _ => weight_eq x n a ha hr M t, ← coe_sum, Finset.mul_sum]

/-- The weighted sum of values. -/
theorem acc_eq (v : T → EReal) : ∑ t, Ideal.exp (a t - (M : EReal)) * ((n t : ℝ) : EReal) * v t
    = (Real.exp (-M) : EReal) * ∑ t, ((Real.exp (x t) * n t : ℝ) : EReal) * v t := by
  rw [coe_mul_sum _ (Real.exp_pos _).le]
  refine Finset.sum_congr rfl fun t _ => ?_
  rw [weight_eq x n a ha hr M t, EReal.coe_mul, mul_assoc]

end Device

/-! ## Several devices -/

/-- A device's sum, taken below its own `M`, rescaled to lie below `G`. -/
theorem rescale (M G : ℝ) (A : EReal) : (Real.exp (-M) : EReal) * A * Ideal.exp ((M : EReal) - (G : EReal)) = (Real.exp (-G) : EReal) * A := by
  rw [← EReal.coe_sub, Ideal.exp_coe, mul_right_comm, ← EReal.coe_mul, ← Real.exp_add]
  congr 3; ring

/-- The same of a real sum. -/
theorem rescale_coe (M G B : ℝ) : ((Real.exp (-M) * B : ℝ) : EReal) * Ideal.exp ((M : EReal) - (G : EReal)) = ((Real.exp (-G) * B : ℝ) : EReal) := by
  rw [EReal.coe_mul, rescale, EReal.coe_mul]

/-- The quotient of two sums that carry the same positive factor. -/
theorem div_common {c Z : ℝ} (hc : 0 < c) (hZ : 0 < Z) (A : EReal) : Ideal.div ((c : EReal) * A) ((c * Z : ℝ) : EReal) = ((Z⁻¹ : ℝ) : EReal) * A := by
  rw [Ideal.div_coe (mul_pos hc hZ).ne', mul_right_comm, ← EReal.coe_mul]
  congr 2
  field_simp

/-- Four devices' partial results, taken in any order and below any number `G`, combine to the whole softmax-weighted sum. -/
theorem combine_eq (M A : Fin 4 → ℝ) (O : Fin 4 → EReal) (G : ℝ) (hZ : 0 < ∑ y, A y) (y0 y1 y2 y3 : Fin 4)
    (hsum : ∀ f : Fin 4 → EReal, f y0 + f y1 + f y2 + f y3 = ∑ y, f y) :
    Ideal.div
      (((Real.exp (-M y0) : EReal) * O y0) * Ideal.exp ((M y0 : EReal) - (G : EReal)) + ((Real.exp (-M y1) : EReal) * O y1) * Ideal.exp ((M y1 : EReal) - (G : EReal))
        + ((Real.exp (-M y2) : EReal) * O y2) * Ideal.exp ((M y2 : EReal) - (G : EReal)) + ((Real.exp (-M y3) : EReal) * O y3) * Ideal.exp ((M y3 : EReal) - (G : EReal)))
      (((Real.exp (-M y0) * A y0 : ℝ) : EReal) * Ideal.exp ((M y0 : EReal) - (G : EReal)) + ((Real.exp (-M y1) * A y1 : ℝ) : EReal) * Ideal.exp ((M y1 : EReal) - (G : EReal))
        + ((Real.exp (-M y2) * A y2 : ℝ) : EReal) * Ideal.exp ((M y2 : EReal) - (G : EReal)) + ((Real.exp (-M y3) * A y3 : ℝ) : EReal) * Ideal.exp ((M y3 : EReal) - (G : EReal)))
    = (((∑ y, A y)⁻¹ : ℝ) : EReal) * ∑ y, O y := by
  simp only [rescale, rescale_coe]
  rw [hsum fun y => (Real.exp (-G) : EReal) * O y, hsum fun y => ((Real.exp (-G) * A y : ℝ) : EReal), ← coe_mul_sum _ (Real.exp_pos _).le, ← coe_sum,
    ← Finset.mul_sum]
  exact div_common (Real.exp_pos _) hZ _

/-! ## The plain softmax -/

section Plain
variable {K : Type*} [Fintype K] (live : K → Prop) [DecidablePred live] (x : K → ℝ) (μ : ℝ)

/-- The exponential of a masked score. -/
theorem exp_masked (k : K) : Ideal.exp ((if live k then (x k : EReal) else ⊥) - (μ : EReal)) = ((Real.exp (-μ) * (if live k then Real.exp (x k) else 0) : ℝ) : EReal) := by
  split
  · rw [← EReal.coe_sub, Ideal.exp_coe, ← Real.exp_add]; congr 2; ring
  · rw [EReal.bot_sub, Ideal.exp_bot]; simp

/-- The normaliser. -/
theorem sum_masked : ∑ k, Ideal.exp ((if live k then (x k : EReal) else ⊥) - (μ : EReal)) = ((Real.exp (-μ) * ∑ k, if live k then Real.exp (x k) else 0 : ℝ) : EReal) := by
  rw [Finset.sum_congr rfl fun k _ => exp_masked live x μ k, ← coe_sum, Finset.mul_sum]

/-- The weighted sum of the values: each live value times its exponential, over the sum of the exponentials. -/
theorem plain_eq (v : K → EReal) (hZ : 0 < ∑ k, if live k then Real.exp (x k) else 0) :
    ∑ k, v k * Ideal.div (Ideal.exp ((if live k then (x k : EReal) else ⊥) - (μ : EReal)))
        (∑ k, Ideal.exp ((if live k then (x k : EReal) else ⊥) - (μ : EReal)))
    = (((∑ k, if live k then Real.exp (x k) else 0)⁻¹ : ℝ) : EReal) * ∑ k, if live k then (Real.exp (x k) : EReal) * v k else 0 := by
  rw [sum_masked, coe_mul_sum _ (inv_nonneg.2 hZ.le)]
  refine Finset.sum_congr rfl fun k _ => ?_
  rw [exp_masked, EReal.coe_mul, div_common (Real.exp_pos _) hZ]
  split
  · rw [mul_comm, mul_assoc]
  · simp

end Plain

end Cert.Softmax

end
-- ==== Proof.Attention.lean ====
/-
# `Attention`: one row of paged attention, without any program

A row is one sequence and one head. `page s` is the page in slot `s` of the sequence's table, `live s` says that the slot is
below the sequence's length. The pool's 2048 pages of 16 tokens are cut into four parts of 512 pages. Summing over the table's
slots is summing over the pool, each page as often as it occurs in a live slot.
-/
module

public import proofs.«01_k».proof.Proof.Softmax

@[expose] public section

noncomputable section

namespace Cert.Attention

open Idealize.ShloMosaic

/-- The score of a query against a key: the scaled inner product. -/
def score (q k : Fin 128 → ℝ) : ℝ := ∑ d, q d * (Real.sqrt 128)⁻¹ * k d

/-- The page and the token that part `y` of the pool has at its token `t`. -/
def pageAt (y : Fin 4) (t : Fin 8192) : Fin 2048 := ⟨t.val / 16 + y.val * 512, by omega⟩
def tokenAt (t : Fin 8192) : Fin 16 := ⟨t.val % 16, by omega⟩

/-- A token's page within its own part of the pool. -/
def ownPage (t : Fin 8192) : Fin 512 := ⟨t.val / 16, by omega⟩
/-- A feature's lane in a partial result. -/
def lane (d : Fin 128) : Fin 256 := ⟨d.val, by omega⟩

/-- A sum over the four parts is a sum over the pool. -/
theorem sum_parts {M : Type*} [AddCommMonoid M] (F : Fin 2048 → Fin 16 → M) :
    ∑ y, ∑ t, F (pageAt y t) (tokenAt t) = ∑ P, ∑ u, F P u := by
  rw [← Fintype.sum_prod_type' (f := fun y t => F (pageAt y t) (tokenAt t)), ← Fintype.sum_prod_type' (f := F)]
  refine Fintype.sum_equiv
    { toFun := fun z => (pageAt z.1 z.2, tokenAt z.2)
      invFun := fun z => (⟨z.1.val / 512, by omega⟩, ⟨z.1.val % 512 * 16 + z.2.val, by omega⟩)
      left_inv := fun z => ?_
      right_inv := fun z => ?_ } _ _ fun z => rfl
  · obtain ⟨y, t⟩ := z
    refine Prod.ext (Fin.ext ?_) (Fin.ext ?_)
    · show (t.val / 16 + y.val * 512) / 512 = y.val
      omega
    · show (t.val / 16 + y.val * 512) % 512 * 16 + t.val % 16 = t.val
      omega
  · obtain ⟨P, u⟩ := z
    refine Prod.ext (Fin.ext ?_) (Fin.ext ?_)
    · show (P.val % 512 * 16 + u.val) / 16 + P.val / 512 * 512 = P.val
      omega
    · show (P.val % 512 * 16 + u.val) % 16 = u.val
      omega

/-- The slots below a length. -/
def below (len : ℤ) (s : Fin 512) : Prop := (s.val : ℤ) < len
instance below_dec (len : ℤ) : DecidablePred (below len) := fun _ => inferInstanceAs (Decidable (_ < _))

section Row
variable (live : Fin 512 → Prop) [DecidablePred live] (page : Fin 512 → Fin 2048)

/-- In how many live slots a page occurs. -/
def count (P : Fin 2048) : ℕ := (Finset.univ.filter fun s => live s ∧ page s = P).card

/-- A sum over the pool whose terms are sums over the slots in which the page occurs. -/
theorem regroup {M : Type*} [AddCommMonoid M] (F G : Fin 2048 → Fin 16 → M)
    (hF : ∀ P u, F P u = ∑ s, if live s ∧ page s = P then G P u else 0) :
    ∑ y, ∑ t, F (pageAt y t) (tokenAt t) = ∑ k : Fin 512 × Fin 16, if live k.1 then G (page k.1) k.2 else 0 := by
  rw [sum_parts, Fintype.sum_prod_type]
  simp only [hF]
  rw [Finset.sum_congr rfl fun P _ => Finset.sum_comm, Finset.sum_comm]
  refine Finset.sum_congr rfl fun s _ => ?_
  rw [Finset.sum_comm]
  refine Finset.sum_congr rfl fun u _ => ?_
  by_cases hs : live s
  · simp [hs]
  · simp [hs]

/-- The values. -/
theorem regroup_values (e : Fin 2048 → Fin 16 → ℝ) (v : Fin 2048 → Fin 16 → EReal) :
    ∑ y, ∑ t, ((e (pageAt y t) (tokenAt t) * count live page (pageAt y t) : ℝ) : EReal) * v (pageAt y t) (tokenAt t)
      = ∑ k : Fin 512 × Fin 16, if live k.1 then (e (page k.1) k.2 : EReal) * v (page k.1) k.2 else 0 :=
  regroup live page (fun P u => ((e P u * count live page P : ℝ) : EReal) * v P u) (fun P u => (e P u : EReal) * v P u)
    fun P u => Softmax.count_mul Finset.univ (fun s => live s ∧ page s = P) (e P u) (v P u)

/-- The weights. -/
theorem regroup_weights (e : Fin 2048 → Fin 16 → ℝ) :
    ∑ y, ∑ t, e (pageAt y t) (tokenAt t) * count live page (pageAt y t) = ∑ k : Fin 512 × Fin 16, if live k.1 then e (page k.1) k.2 else 0 :=
  regroup live page (fun P u => e P u * count live page P) e fun P u => by
    rw [← Finset.sum_filter, Finset.sum_const, nsmul_eq_mul, mul_comm]; rfl

/-- What the attention of one row gives for one feature: the live values weighted by the exponentials of their scores, over the
    sum of these. -/
def attend (x : Fin 2048 → Fin 16 → ℝ) (v : Fin 2048 → Fin 16 → EReal) : EReal :=
  (((∑ k : Fin 512 × Fin 16, if live k.1 then Real.exp (x (page k.1) k.2) else 0)⁻¹ : ℝ) : EReal)
    * ∑ k : Fin 512 × Fin 16, if live k.1 then (Real.exp (x (page k.1) k.2) : EReal) * v (page k.1) k.2 else 0

/-- With a live slot the sum of the exponentials is positive. -/
theorem sum_pos (x : Fin 512 × Fin 16 → ℝ) {s : Fin 512} (hs : live s) : 0 < ∑ k : Fin 512 × Fin 16, if live k.1 then Real.exp (x k) else 0 := by
  refine Finset.sum_pos' (fun k _ => ?_) ⟨(s, 0), Finset.mem_univ _, ?_⟩
  · split
    · exact (Real.exp_pos _).le
    · exact le_rfl
  · show 0 < (if live s then Real.exp (x (s, 0)) else 0)
    rw [if_pos hs]
    exact Real.exp_pos _

end Row

end Cert.Attention

end
-- ==== Proof.PartValue.lean ====
/-
# `PartValue`: one device's partial result, read at an index

With real queries and keys, and with table entries below the length that name pages of the pool, the three parts of what a
device stores for one row are: a real number `M`; the sum of its tokens' exponentials, each as often as its page occurs in
the row's live slots, times `exp (-M)`; and the sum of its values with the same weights.
-/
module

public import proofs.«01_k».proof.Proof.EndsIdeal
public import proofs.«01_k».proof.Proof.PageWord
public import proofs.«01_k».proof.Proof.Consts
public import proofs.«01_k».proof.Proof.Attention
public import Idealize.ShloMosaic.Lib.Pointwise
public import Idealize.ShloMosaic.Lib.Tactic.WordOmega
@[expose] public section
set_option maxRecDepth 16384
noncomputable section
namespace Cert.KernelIdeal.Ring
open Cert.KernelIdeal Cert.KernelIdeal.Gen
open Idealize.ShloMosaic

/-! ## The kernel's counts and masks -/

/-- Slot `s` is below the length and names page `P`. -/
def occurs (bt : S8x512.Idx → BitVec 32) (ln : S8.Idx → BitVec 32) (b : Fin 8) (P : ℕ) (s : Fin 512) : Prop :=
  bt (ix2 b s) = BitVec.ofNat 32 P ∧ (s.val : ℤ) < (ln (ix1 b)).toInt
instance (bt ln b P) : DecidablePred (occurs bt ln b P) := fun _ => inferInstanceAs (Decidable (_ ∧ _))

/-- In how many slots a page occurs. -/
def times (bt : S8x512.Idx → BitVec 32) (ln : S8.Idx → BitVec 32) (b : Fin 8) (P : ℕ) : ℕ := (Finset.univ.filter (occurs bt ln b P)).card

/-- The device's place on the middle axis, as a number. -/
theorem yOf_eq (c : Dev nD) : yOf c = BitVec.ofNat 32 (c.val / 4 % 4) := by revert c; decide +kernel

/-- The counts per page of the device's own pool; -/
theorem cnt_apply (y : ℕ) (bt : Vec Ideal S8x512 .i32) (ln : Vec Ideal S8 .i32) (b : Fin 8) (p : Fin 512) :
    k0_pay2 (F := Ideal) (BitVec.ofNat 32 y) bt ln (ix2 b p) = ((times bt ln b (p.val + y * 512) : ℝ) : EReal) := by
  pointwise [k0_pay2]
  unfold times
  rw [← Softmax.sum_ite_one]
  refine Finset.sum_congr rfl fun s _ => ?_
  have hs := s.isLt
  have e1 : (BitVec.ofNat 32 s.val).toInt = (s.val : ℤ) := by
    rw [BitVec.toInt_eq_toNat_of_lt] <;> rw [BitVec.toNat_ofNat] <;> omega
  have h : (IntOp.andi (IntOp.cmpi CmpIPredicate.eq (bt (ix2 b s)) (IntOp.addi (BitVec.ofNat 32 p.val) (Scalar.muli (BitVec.ofNat 32 y) 512#32)))
          (IntOp.cmpi CmpIPredicate.slt (BitVec.ofNat 32 s.val) (ln (ix1 b)))) = BitVec.ofBool (decide (occurs bt ln b (p.val + y * 512) s)) := by
    have e2 : IntOp.addi (BitVec.ofNat 32 p.val) (Scalar.muli (BitVec.ofNat 32 y) 512#32) = BitVec.ofNat 32 (p.val + y * 512) := by
      show BitVec.ofNat 32 p.val + BitVec.ofNat 32 y * 512#32 = _
      rw [BitVec.ofNat_add, BitVec.ofNat_mul]
    rw [e2]
    have e3 : decide (occurs bt ln b (p.val + y * 512) s) = (decide (bt (ix2 b s) = BitVec.ofNat 32 (p.val + y * 512)) && decide ((BitVec.ofNat 32 s.val).toInt < (ln (ix1 b)).toInt)) := by
      rw [e1, ← Bool.decide_and]; rfl
    rw [e3]
    show BitVec.ofBool _ &&& BitVec.ofBool _ = _
    rw [BitVec.ofBool_and_ofBool]
    rfl
  rw [h]
  by_cases ho : occurs bt ln b (p.val + y * 512) s <;> simp [ho, Scalar.select]

/-- the same per token; -/
theorem mult_apply (cn : FVec Ideal S8x512 .f32) (b : Fin 8) (t : Fin 8192) :
    k0_pay6 (F := Ideal) cn (iota .tc S8192x1 32 [0] iota_S8192x1_d0_w32) 16#32 k0_pay3 k0_pay4 k0_pay5 (ix2 b t) = cn (ix2 b ⟨t.val / 16, by omega⟩) := by
  pointwise [k0_pay6, k0_pay3, k0_pay4, k0_pay5]
  rw [PageWord.page_word]
  rw [Finset.sum_eq_single (⟨t.val / 16, by omega⟩ : Fin 512)]
  · have h : (FloatOps.sitofp (F := Ideal) FTy.f32 (1#32)) = 1 := by
      show (((1#32 : BitVec 32).toInt : ℝ) : EReal) = 1
      norm_num
    simp [IntOp.cmpi, h]
  · intro x _ hx
    have : ¬ (BitVec.ofNat 32 (t.val / 16) = BitVec.ofNat 32 x.val) := by
      intro h
      apply hx
      have := congrArg BitVec.toNat h
      simp only [BitVec.toNat_ofNat] at this
      apply Fin.ext
      show x.val = t.val / 16
      omega
    have e : IntOp.cmpi CmpIPredicate.eq (BitVec.ofNat 32 (t.val / 16)) (BitVec.ofNat 32 x.val) = 0#1 := by
      show BitVec.ofBool (_ == _) = _
      rw [beq_eq_false_iff_ne.2 this]; rfl
    rw [e]
    have h : (FloatOps.sitofp (F := Ideal) FTy.f32 (BitVec.setWidth 32 (0#1))) = 0 := by
      show (((BitVec.setWidth 32 (0#1)).toInt : ℝ) : EReal) = 0
      norm_num
    rw [h, mul_zero]
  · simp
/-- the mask of the tokens that occur; -/
theorem alive_apply (cn : FVec Ideal S8x512 .f32) (b : Fin 8) (t : Fin 8192) (n : ℕ) (hn : cn (ix2 b ⟨t.val / 16, by omega⟩) = ((n : ℝ) : EReal)) :
    k0_pay7 (F := Ideal) cn (iota .tc S8192x1 32 [0] iota_S8192x1_d0_w32) 16#32 k0_pay3 k0_pay4 k0_pay5 (ix2 b t) = BitVec.ofBool (decide (n ≠ 0)) := by
  unfold k0_pay7
  pointwise []
  rw [mult_apply, Consts.half, hn]
  congr 2
  rw [EReal.coe_lt_coe_iff]
  refine propext ⟨fun h h0 => ?_, fun h => ?_⟩
  · subst h0; norm_num at h
  · have : (1 : ℝ) ≤ n := by exact_mod_cast Nat.one_le_iff_ne_zero.2 h
    linarith

/-- the scaled queries. -/
theorem q_apply (q : Vec Ideal S8x1x8x128 .f32) (b h : Fin 8) (d : Fin 128) : k0_pay8 q (ix3 b h d) = q (ix4 b 0 h d) * (((Real.sqrt 128)⁻¹ : ℝ) : EReal) := by
  pointwise [k0_pay8]
  rw [IdealRules.named_const.ideal_named_scalar κ "scale" (φ := .f32) 0x3DB504F3#32 (((Real.sqrt 128)⁻¹ : ℝ) : EReal) rfl]

/-! ## One head of one device -/

section Head
variable (mult : FVec Ideal S8x8192 .f32) (alive : IVec S8x8192 1) (q : FVec Ideal S8x8x128 .f32) (h : Fin 8) (k v : FVec Ideal S512x16x128 .f32) (b : Fin 8)

/-- A score. -/
theorem score_apply (t : Fin 8192) : scoreOf alive q h k (ix2 b t)
    = Scalar.select (alive (ix2 b t)) (∑ d, q (ix3 b h d) * k (ix3 ⟨t.val / 16, by omega⟩ ⟨t.val % 16, by omega⟩ d)) (Ideal.ofBits .f32 0xF149F2CA#32) := by
  pointwise [scoreOf]

/-- The greatest score; -/
theorem mPay_apply : mPay alive q h k (ix3 b 0 0) = Finset.fold max ⊥ (fun t => scoreOf alive q h k (ix2 b t)) Finset.univ := by
  rw [← Consts.neg_inf]
  pointwise [mPay, maxOf]

/-- the sum of the weights; -/
theorem lPay_apply : lPay mult alive q h k (ix3 b 0 0)
    = ∑ t, Ideal.exp (scoreOf alive q h k (ix2 b t) - mPay alive q h k (ix3 b 0 0)) * mult (ix2 b t) := by
  rw [mPay_apply, ← Consts.neg_inf]
  pointwise [lPay, sumOf, wtOf, maxOf]

/-- the weighted values. -/
theorem oPay_apply (d : Fin 128) : oPay mult alive q h k v (ix3 b 0 d)
    = ∑ t : Fin 8192, Ideal.exp (scoreOf alive q h k (ix2 b t) - mPay alive q h k (ix3 b 0 0)) * mult (ix2 b t)
        * v (ix3 ⟨t.val / 16, by omega⟩ ⟨t.val % 16, by omega⟩ d) := by
  rw [mPay_apply, ← Consts.neg_inf]
  pointwise [oPay, accOf, wtOf, maxOf]

end Head

/-! ## The partial result -/

section Part
variable (m : (ℓ : Loc nD τ sig) → Buf (Elt Ideal) ℓ) (ρ : Dev nD → PrngReg) (c : Dev nD) (b h : Fin 8)

/-- The lanes of the partial result. -/
theorem part_o (d : Fin 128) : part m ρ c (ix3 b h (Attention.lane d))
    = oPay (multOf m ρ c) (aliveOf m ρ c) (qOf m ρ c) h (kOf m ρ c h) (vOf m ρ c h) (ix3 b 0 d) := by
  unfold part; exact dif_pos d.isLt
theorem part_m : part m ρ c (ix3 b h 128) = mPay (aliveOf m ρ c) (qOf m ρ c) h (kOf m ρ c h) (ix3 b 0 0) := by
  unfold part; exact (dif_neg (by decide : ¬ (128 < 128))).trans (if_pos rfl)
theorem part_l : part m ρ c (ix3 b h 129) = lPay (multOf m ρ c) (aliveOf m ρ c) (qOf m ρ c) h (kOf m ρ c h) (ix3 b 0 0) := by
  unfold part; exact (dif_neg (by decide : ¬ (129 < 128))).trans (if_neg (by decide : ¬ (129 = 128)))

variable (y : Fin 4) (hy : c.val / 4 % 4 = y.val)
  (q : Fin 8 → Fin 8 → Fin 128 → ℝ) (k : Fin 2048 → Fin 16 → Fin 8 → Fin 128 → ℝ) (v : Fin 2048 → Fin 16 → Fin 8 → Fin 128 → EReal)
  (page : Fin 8 → Fin 512 → Fin 2048) (bt : IVec S8x512 32) (ln : IVec S8 32)
  (hbt : m ((c.tc : Thread nD τ).loc main_arg3) = bt) (hln : m ((c.tc : Thread nD τ).loc main_arg4) = ln)
  (hq : ∀ b h d, (m ((c.tc : Thread nD τ).loc main_arg0) : FVec Ideal S8x1x8x128 .f32) (ix4 b 0 h d) = (q b h d : EReal))
  (hk : ∀ (t : Fin 8192) h d, (m ((c.tc : Thread nD τ).loc main_arg1) : FVec Ideal S512x16x8x128 .f32) (ix4 (Attention.ownPage t) (Attention.tokenAt t) h d)
    = (k (Attention.pageAt y t) (Attention.tokenAt t) h d : EReal))
  (hv : ∀ (t : Fin 8192) h d, (m ((c.tc : Thread nD τ).loc main_arg2) : FVec Ideal S512x16x8x128 .f32) (ix4 (Attention.ownPage t) (Attention.tokenAt t) h d)
    = v (Attention.pageAt y t) (Attention.tokenAt t) h d)
  (hp : ∀ b s, Attention.below (ln (ix1 b)).toInt s → bt (ix2 b s) = BitVec.ofNat 32 (page b s).val)

/-- How often the row's live slots name the page of a token. -/
abbrev tokCount (t : Fin 8192) : ℕ := Attention.count (Attention.below (ln (ix1 b)).toInt) (page b) (Attention.pageAt y t)

include hp in
/-- The kernel counts the slots that name a page. -/
theorem times_eq (P : Fin 2048) : times bt ln b P.val = Attention.count (Attention.below (ln (ix1 b)).toInt) (page b) P := by
  unfold times Attention.count
  congr 1
  refine Finset.filter_congr fun s _ => ?_
  constructor
  · rintro ⟨h1, h2⟩
    refine ⟨h2, Fin.ext ?_⟩
    have h3 := congrArg BitVec.toNat ((hp b s h2).symm.trans h1)
    simp only [BitVec.toNat_ofNat] at h3
    have := (page b s).isLt
    have := P.isLt
    omega
  · rintro ⟨h1, h2⟩
    exact ⟨h2 ▸ hp b s h1, h1⟩

include hy hbt hln hp in
/-- A token's count. -/
theorem cnt_eq (t : Fin 8192) : cnt m ρ c (ix2 b ⟨t.val / 16, by omega⟩) = ((tokCount b y page ln t : ℝ) : EReal) := by
  unfold cnt
  rw [bstg_eq, lstg_eq, yOf_eq, hy]
  refine (cnt_apply y.val _ _ b ⟨t.val / 16, by omega⟩).trans ?_
  rw [hbt, hln]
  exact congrArg (fun n : ℕ => ((n : ℝ) : EReal)) (times_eq b page bt ln hp (Attention.pageAt y t))

include hy hbt hln hq hk hv hp in
/-- What a device stores for one row. -/
theorem part_value : ∃ M : ℝ, part m ρ c (ix3 b h 128) = (M : EReal)
    ∧ part m ρ c (ix3 b h 129) = ((Real.exp (-M) * ∑ t, Real.exp (Attention.score (q b h) (k (Attention.pageAt y t) (Attention.tokenAt t) h)) * tokCount b y page ln t : ℝ) : EReal)
    ∧ ∀ d : Fin 128, part m ρ c (ix3 b h (Attention.lane d)) = (Real.exp (-M) : EReal)
        * ∑ t, ((Real.exp (Attention.score (q b h) (k (Attention.pageAt y t) (Attention.tokenAt t) h)) * tokCount b y page ln t : ℝ) : EReal)
          * v (Attention.pageAt y t) (Attention.tokenAt t) h d := by
  have hcnt := cnt_eq m ρ c b y hy page bt ln hbt hln hp
  have hmult : ∀ t : Fin 8192, multOf m ρ c (ix2 b t) = ((tokCount b y page ln t : ℝ) : EReal) := fun t => (mult_apply _ b t).trans (hcnt t)
  have hs : ∀ t : Fin 8192, scoreOf (aliveOf m ρ c) (qOf m ρ c) h (kOf m ρ c h) (ix2 b t)
      = if tokCount b y page ln t ≠ 0 then ((Attention.score (q b h) (k (Attention.pageAt y t) (Attention.tokenAt t) h) : ℝ) : EReal)
        else Ideal.ofBits .f32 0xF149F2CA#32 := fun t => by
    have ha : aliveOf m ρ c (ix2 b t) = BitVec.ofBool (decide (tokCount b y page ln t ≠ 0)) := alive_apply _ b t _ (hcnt t)
    rw [score_apply, ha]
    have e : ∀ d : Fin 128, qOf m ρ c (ix3 b h d) * kOf m ρ c h (ix3 ⟨t.val / 16, by omega⟩ ⟨t.val % 16, by omega⟩ d)
        = ((q b h d * (Real.sqrt 128)⁻¹ * k (Attention.pageAt y t) (Attention.tokenAt t) h d : ℝ) : EReal) := fun d => by
      have e1 : qOf m ρ c (ix3 b h d) = ((q b h d * (Real.sqrt 128)⁻¹ : ℝ) : EReal) := by
        unfold qOf
        rw [q_apply, qstg_eq, hq, ← EReal.coe_mul]
      have e2 : kOf m ρ c h (ix3 ⟨t.val / 16, by omega⟩ ⟨t.val % 16, by omega⟩ d) = (k (Attention.pageAt y t) (Attention.tokenAt t) h d : EReal) := hk t h d
      rw [e1, e2, ← EReal.coe_mul]
    rw [Finset.sum_congr rfl fun d _ => e d, ← Softmax.coe_sum]
    by_cases h0 : tokCount b y page ln t ≠ 0
    · rw [if_pos h0, decide_eq_true h0]; rfl
    · rw [if_neg h0, decide_eq_false h0]; rfl
  have hreal : ∀ t : Fin 8192, ∃ r : ℝ, scoreOf (aliveOf m ρ c) (qOf m ρ c) h (kOf m ρ c h) (ix2 b t) = (r : EReal) := fun t => by
    rw [hs t]
    split
    · exact ⟨_, rfl⟩
    · exact Consts.mask_real
  obtain ⟨M, hM⟩ : ∃ M : ℝ, mPay (aliveOf m ρ c) (qOf m ρ c) h (kOf m ρ c h) (ix3 b 0 0) = (M : EReal) := by
    rw [mPay_apply]
    refine Softmax.fold_max_real _ _ (fun t _ => ?_) ⟨0, Finset.mem_univ _, ?_⟩
    · obtain ⟨r, hr⟩ := hreal t
      rw [hr]; exact EReal.coe_ne_top r
    · obtain ⟨r, hr⟩ := hreal 0
      rw [hr]; exact EReal.coe_ne_bot r
  refine ⟨M, (part_m m ρ c b h).trans hM, ?_, fun d => ?_⟩
  · rw [part_l, lPay_apply, hM]
    simp only [hmult]
    exact Softmax.sum_eq (fun t => Attention.score (q b h) (k (Attention.pageAt y t) (Attention.tokenAt t) h)) (tokCount b y page ln) _
      (fun t ht => (hs t).trans (if_pos ht)) hreal M
  · rw [part_o, oPay_apply, hM]
    simp only [hmult]
    have hv' : ∀ t : Fin 8192, vOf m ρ c h (ix3 ⟨t.val / 16, by omega⟩ ⟨t.val % 16, by omega⟩ d) = v (Attention.pageAt y t) (Attention.tokenAt t) h d := fun t => hv t h d
    simp only [hv']
    exact Softmax.acc_eq (fun t => Attention.score (q b h) (k (Attention.pageAt y t) (Attention.tokenAt t) h)) (tokCount b y page ln) _
      (fun t ht => (hs t).trans (if_pos ht)) hreal M (fun t => v (Attention.pageAt y t) (Attention.tokenAt t) h d)

end Part

end Cert.KernelIdeal.Ring

end
-- ==== Proof.OutValue.lean ====
/-
# `OutValue`: the kernel's result, read at an index

The four devices of a ring hold the partial results of the four parts of the pool. Combined, they are the attention over
the whole pool, on every device.
-/
module

public import proofs.«01_k».proof.Proof.PartValue

@[expose] public section

set_option maxRecDepth 16384

noncomputable section

namespace Cert.KernelIdeal.Ring

open Cert.KernelIdeal Cert.KernelIdeal.Gen
open Idealize.ShloMosaic Idealize.ShloMosaic.TcCoe

/-- The combination of four partial results: weighted by the exponentials of their maxima below the greatest one. -/
theorem combine_apply (p g0 g1 g2 : S8x8x256.Idx → EReal) (b h : Fin 8) (d : Fin 128) : ∃ G : EReal,
    G = max (max (max (p (ix3 b h 128)) (g0 (ix3 b h 128))) (g1 (ix3 b h 128))) (g2 (ix3 b h 128)) ∧
    combine (F := Ideal) p (lift4 (F := Ideal) g0) (lift4 (F := Ideal) g1) (lift4 (F := Ideal) g2) (ix4 b 0 h d)
      = Ideal.div
          (p (ix3 b h (Attention.lane d)) * Ideal.exp (p (ix3 b h 128) - G) + g0 (ix3 b h (Attention.lane d)) * Ideal.exp (g0 (ix3 b h 128) - G)
            + g1 (ix3 b h (Attention.lane d)) * Ideal.exp (g1 (ix3 b h 128) - G) + g2 (ix3 b h (Attention.lane d)) * Ideal.exp (g2 (ix3 b h 128) - G))
          (p (ix3 b h 129) * Ideal.exp (p (ix3 b h 128) - G) + g0 (ix3 b h 129) * Ideal.exp (g0 (ix3 b h 128) - G)
            + g1 (ix3 b h 129) * Ideal.exp (g1 (ix3 b h 128) - G) + g2 (ix3 b h 129) * Ideal.exp (g2 (ix3 b h 128) - G)) := by
  refine ⟨_, rfl, ?_⟩
  pointwise [combine, lift4, k0_pay1, k0_pay66, k0_pay67, k0_pay68, k0_pay69, k0_pay70, k0_pay71, k0_pay72, k0_pay73, k0_pay65]
  rfl

/-! ## The devices of one ring -/

/-- A device's place on the middle axis. -/
def place (c : Dev nD) : Fin 4 := ⟨c.val / 4 % 4, by omega⟩
/-- The device of `c`'s ring at place `y`. -/
def devAt (c : Dev nD) (y : Fin 4) : Dev nD := ⟨c.val / 16 * 16 + y.val * 4 + c.val % 4, by
  have := c.isLt; simp only [nD] at this ⊢; omega⟩

theorem place_devAt (c : Dev nD) (y : Fin 4) : place (devAt c y) = y := by revert c y; decide +kernel
theorem devAt_self (c : Dev nD) : devAt c (place c) = c := by revert c; decide +kernel
theorem back_one (c : Dev nD) : back 1 c = devAt c (place c + 3) := by revert c; decide +kernel
theorem back_two (c : Dev nD) : back 2 c = devAt c (place c + 2) := by revert c; decide +kernel
theorem back_three (c : Dev nD) : back 3 c = devAt c (place c + 1) := by revert c; decide +kernel

/-- Going once round a ring meets every place. -/
theorem sum_round (y : Fin 4) (f : Fin 4 → EReal) : f y + f (y + 3) + f (y + 2) + f (y + 1) = ∑ y, f y := by
  rw [Fin.sum_univ_four]
  fin_cases y
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-! ## The result -/

section Out
variable (m : (ℓ : Loc nD τ sig) → Buf (Elt Ideal) ℓ) (ρ : Dev nD → PrngReg)
  (q : Fin 8 → Fin 8 → Fin 128 → ℝ) (k : Fin 2048 → Fin 16 → Fin 8 → Fin 128 → ℝ) (v : Fin 2048 → Fin 16 → Fin 8 → Fin 128 → EReal)
  (page : Fin 8 → Fin 512 → Fin 2048) (bt : IVec S8x512 32) (ln : IVec S8 32)
  (hbt : ∀ c : Dev nD, m ((c.tc : Thread nD τ).loc main_arg3) = bt) (hln : ∀ c : Dev nD, m ((c.tc : Thread nD τ).loc main_arg4) = ln)
  (hq : ∀ (c : Dev nD) b h d, (m ((c.tc : Thread nD τ).loc main_arg0) : FVec Ideal S8x1x8x128 .f32) (ix4 b 0 h d) = (q b h d : EReal))
  (hk : ∀ (c : Dev nD) (t : Fin 8192) h d, (m ((c.tc : Thread nD τ).loc main_arg1) : FVec Ideal S512x16x8x128 .f32) (ix4 (Attention.ownPage t) (Attention.tokenAt t) h d)
    = (k (Attention.pageAt (place c) t) (Attention.tokenAt t) h d : EReal))
  (hv : ∀ (c : Dev nD) (t : Fin 8192) h d, (m ((c.tc : Thread nD τ).loc main_arg2) : FVec Ideal S512x16x8x128 .f32) (ix4 (Attention.ownPage t) (Attention.tokenAt t) h d)
    = v (Attention.pageAt (place c) t) (Attention.tokenAt t) h d)
  (hp : ∀ b s, Attention.below (ln (ix1 b)).toInt s → bt (ix2 b s) = BitVec.ofNat 32 (page b s).val)
  (hpos : ∀ b, 1 ≤ (ln (ix1 b)).toInt)
include hbt hln hq hk hv hp hpos

/-- The kernel's result on every device: the attention of each row. -/
theorem out_apply (c : Dev nD) (b h : Fin 8) (d : Fin 128) : (outAt m ρ c : FVec Ideal S8x1x8x128 .f32) (ix4 b 0 h d)
    = Attention.attend (Attention.below (ln (ix1 b)).toInt) (page b) (fun P u => Attention.score (q b h) (k P u h)) (fun P u => v P u h d) := by
  have hpart := fun y : Fin 4 => part_value m ρ (devAt c y) b h y (congrArg Fin.val (place_devAt c y)) q k v page bt ln (hbt _) (hln _) (hq _)
    (fun t h d => by have := hk (devAt c y) t h d; rw [place_devAt] at this; exact this)
    (fun t h d => by have := hv (devAt c y) t h d; rw [place_devAt] at this; exact this) hp
  choose M hM hA hO using hpart
  obtain ⟨G, hG, hc⟩ := combine_apply (part m ρ c) (part m ρ (back 1 c)) (part m ρ (back 2 c)) (part m ρ (back 3 c)) b h d
  have h0 : part m ρ c = part m ρ (devAt c (place c)) := by rw [devAt_self]
  rw [back_one, back_two, back_three, h0] at hc hG
  obtain ⟨g, hg⟩ : ∃ g : ℝ, G = (g : EReal) := by
    rw [hG, hM, hM, hM, hM]
    exact ⟨_, by rw [Softmax.coe_max, Softmax.coe_max, Softmax.coe_max]⟩
  rw [hg] at hc
  obtain ⟨A, hAy⟩ : ∃ A : Fin 4 → ℝ, ∀ y, A y
      = ∑ t, Real.exp (Attention.score (q b h) (k (Attention.pageAt y t) (Attention.tokenAt t) h)) * tokCount b y page ln t := ⟨_, fun _ => rfl⟩
  obtain ⟨O, hOy⟩ : ∃ O : Fin 4 → EReal, ∀ y, O y
      = ∑ t, ((Real.exp (Attention.score (q b h) (k (Attention.pageAt y t) (Attention.tokenAt t) h)) * tokCount b y page ln t : ℝ) : EReal)
        * v (Attention.pageAt y t) (Attention.tokenAt t) h d := ⟨_, fun _ => rfl⟩
  have hA' : ∀ y, part m ρ (devAt c y) (ix3 b h 129) = ((Real.exp (-M y) * A y : ℝ) : EReal) := fun y => by rw [hA, hAy]
  have hO' : ∀ y, part m ρ (devAt c y) (ix3 b h (Attention.lane d)) = (Real.exp (-M y) : EReal) * O y := fun y => by rw [hO, hOy]
  simp only [hM, hA', hO'] at hc
  have hlive : Attention.below (ln (ix1 b)).toInt 0 := by have := hpos b; show ((0 : ℕ) : ℤ) < _; omega
  have hw := Attention.regroup_weights (Attention.below (ln (ix1 b)).toInt) (page b) (fun P u => Real.exp (Attention.score (q b h) (k P u h)))
  have hpos' := Attention.sum_pos (Attention.below (ln (ix1 b)).toInt) (fun z => Attention.score (q b h) (k (page b z.1) z.2 h)) hlive
  have hval := Attention.regroup_values (Attention.below (ln (ix1 b)).toInt) (page b) (fun P u => Real.exp (Attention.score (q b h) (k P u h))) (fun P u => v P u h d)
  have he : (outAt m ρ c : FVec Ideal S8x1x8x128 .f32) (ix4 b 0 h d) = combine (F := Ideal) (part m ρ (devAt c (place c))) (lift4 (F := Ideal) (part m ρ (devAt c (place c + 3))))
      (lift4 (F := Ideal) (part m ρ (devAt c (place c + 2)))) (lift4 (F := Ideal) (part m ρ (devAt c (place c + 1)))) (ix4 b 0 h d) := by
    unfold outAt
    rw [back_one, back_two, back_three, h0]
  have hAs : ∑ y, A y = ∑ z : Fin 512 × Fin 16, if Attention.below (ln (ix1 b)).toInt z.1 then Real.exp (Attention.score (q b h) (k (page b z.1) z.2 h)) else 0 :=
    (Finset.sum_congr rfl fun y _ => hAy y).trans hw
  have hOs : ∑ y, O y = ∑ z : Fin 512 × Fin 16, if Attention.below (ln (ix1 b)).toInt z.1
      then (Real.exp (Attention.score (q b h) (k (page b z.1) z.2 h)) : EReal) * v (page b z.1) z.2 h d else 0 :=
    (Finset.sum_congr rfl fun y _ => hOy y).trans hval
  rw [← hAs] at hpos'
  rw [he, hc, Softmax.combine_eq M A O g hpos' (place c) (place c + 3) (place c + 2) (place c + 1) (sum_round (place c)), hAs, hOs]
  rfl

end Out

end Cert.KernelIdeal.Ring

end
-- ==== Proof.RefValue.lean ====
/-
# `RefValue`: the reference's result, read at an index

The reference gathers the pages that a table names, masks the slots from the sequence's length on, and takes the softmax
attention. With real queries and keys, with table entries below the length that name pages of the pool, and with positive
lengths, its result is the sum of the live values weighted by the exponentials of their scores, over the sum of these
exponentials.
-/
module

public import proofs.«01_k».proof.Proof.Gen.ReferenceIdeal.Run
public import proofs.«01_k».proof.Proof.Consts
public import proofs.«01_k».proof.Proof.Attention
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.TcCoe

/-! ## The result, stage by stage -/

section Stages
variable (Q : FVec Ideal S8x1x8x128 .f32) (K V : FVec Ideal S2048x16x8x128 .f32) (bt : IVec S8x512 32) (ln : IVec S8 32)

/-- The table's entries as start indices: a negative entry counts from the pool's end. -/
def words : IVec S8x512x1 32 :=
  broadcastInDim S8x512x1 ![0, 1] bcast_S8x512_S8x512x1_0_1
    (select (cmpi .slt bt (broadcastInDim S8x512 ![] bcast_S_S8x512 (constantI S_ 32 0#32)))
      (addi bt (broadcastInDim S8x512 ![] bcast_S_S8x512 (constantI S_ 32 2048#32))) bt)

/-- The pages that the table names. -/
def pages : FVec Ideal S8x512x16x8x128 .f32 := Host.gather gather_S2048x16x8x128_S8x512x1_S8x512x16x8x128_234_0_n_n_0_2_1168128 K (words bt)

/-- The slots below the length. -/
def liveMask : IVec S8x8x1x512x16 1 :=
  broadcastInDim S8x8x1x512x16 ![0, 1, 2, 3, 4] bcast_S8x1x1x512x1_S8x8x1x512x16_0_1_2_3_4 (broadcastInDim S8x1x1x512x1 ![0, 3] bcast_S8x512_S8x1x1x512x1_0_3
    (cmpi .slt (broadcastInDim S8x512 ![0, 1] bcast_S1x512_S8x512_0_1 (broadcastInDim S1x512 ![1] bcast_S512_S1x512_1 (iotaInDim S512 32 0)))
      (broadcastInDim S8x512 ![0, 1] bcast_S8x1_S8x512_0_1 (broadcastInDim S8x1 ![0] bcast_S8_S8x1_0 ln))))

/-- The masked scores. -/
def scores : FVec Ideal S8x8x1x512x16 .f32 :=
  select (liveMask ln)
    (Host.divf (Host.dotGeneral dot_S8x1x8x128_S8x512x16x8x128_S8x8x1x512x16_3_4_1_12_02_03 none Q (pages K bt))
      (broadcastInDim S8x8x1x512x16 ![] bcast_S_S8x8x1x512x16 (Host.sqrt (constant S_ .f32 0x43000000#32))))
    (broadcastInDim S8x8x1x512x16 ![] bcast_S_S8x8x1x512x16 (id (constant S_ .f32 0xFF800000#32)))

/-- Their maxima. -/
def peaks : FVec Ideal S8x8x1 .f32 :=
  Host.reduce FloatOps.maximumf (scores Q K bt ln) (constant S_ .f32 0xFF800000#32) reducesTo_S8x8x1x512x16_S8x8x1_d3_4 h_S_

/-- The exponentials below the maxima. -/
def expos : FVec Ideal S8x8x1x512x16 .f32 :=
  Host.exp (subf (scores Q K bt ln) (broadcastInDim S8x8x1x512x16 ![0, 1, 2, 3, 4] bcast_S8x8x1x1x1_S8x8x1x512x16_0_1_2_3_4
    (broadcastInDim S8x8x1x1x1 ![0, 1, 2] bcast_S8x8x1_S8x8x1x1x1_0_1_2 (peaks Q K bt ln))))

/-- Their sums. -/
def norms : FVec Ideal S8x8x1 .f32 :=
  Host.reduceAdd (expos Q K bt ln) (constant S_ .f32 0x00000000#32) reducesTo_S8x8x1x512x16_S8x8x1_d3_4 h_S_

/-- The result. -/
def result : FVec Ideal S8x1x8x128 .f32 :=
  transpose S8x1x8x128 [0, 3, 1, 2]
    (Host.dotGeneral dot_S8x512x16x8x128_S8x8x1x512x16_S8x8x128x1_12_34_4_2_03_01 none (pages V bt)
      (Host.divf (expos Q K bt ln) (broadcastInDim S8x8x1x512x16 ![0, 1, 2, 3, 4] bcast_S8x8x1x1x1_S8x8x1x512x16_0_1_2_3_4
        (broadcastInDim S8x8x1x1x1 ![0, 1, 2] bcast_S8x8x1_S8x8x1x1x1_0_1_2 (norms Q K bt ln)))))
    transposes_S8x8x128x1_S8x1x8x128_0_3_1_2

end Stages

/-- What the program's run leaves is this result of its arguments. -/
theorem out_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_out0 res_main_v36
  rfl

/-! ## The gather -/

/-- A gathered page is the page that the start index names, when the pool has it. -/
theorem gather_apply (x : S2048x16x8x128.Idx → EReal) (idx : IVec S8x512x1 32) (b : Fin 8) (s : Fin 512) (u : Fin 16) (h : Fin 8) (d : Fin 128)
    (P : Fin 2048) (hP : idx (ix3 b s 0) = BitVec.ofNat 32 P.val) :
    Host.gather gather_S2048x16x8x128_S8x512x1_S8x512x16x8x128_234_0_n_n_0_2_1168128 x idx (ix5 b s u h d) = x (ix4 P u h d) := by
  unfold Host.gather
  refine congrArg x (funext fun a => Fin.ext ?_)
  match a with
  | ⟨0, _⟩ =>
    have e : GatherDims.siIdx gather_S2048x16x8x128_S8x512x1_S8x512x16x8x128_234_0_n_n_0_2_1168128 (ix5 b s u h d) ⟨0, by decide⟩ = ix3 b s 0 := by
      funext a'
      match a' with
      | ⟨0, _⟩ => rfl
      | ⟨1, _⟩ => rfl
      | ⟨2, _⟩ => rfl
    have hl := P.isLt
    have e2 : (BitVec.ofNat 32 P.val).toInt = (P.val : ℤ) := by
      rw [BitVec.toInt_eq_toNat_of_lt] <;> rw [BitVec.toNat_ofNat] <;> omega
    show min ((idx (GatherDims.siIdx gather_S2048x16x8x128_S8x512x1_S8x512x16x8x128_234_0_n_n_0_2_1168128 (ix5 b s u h d) ⟨0, by decide⟩)).toInt).toNat (2048 - 1) + 0 + 0 = P.val
    rw [e, hP, e2]
    omega
  | ⟨1, _⟩ => show 0 + 0 + u.val = u.val; omega
  | ⟨2, _⟩ => show 0 + 0 + h.val = h.val; omega
  | ⟨3, _⟩ => show 0 + 0 + d.val = d.val; omega

/-- An entry that names a page of the pool is its own start index. -/
theorem words_apply (bt : IVec S8x512 32) (b : Fin 8) (s : Fin 512) (P : Fin 2048) (hP : bt (ix2 b s) = BitVec.ofNat 32 P.val) :
    words bt (ix3 b s 0) = BitVec.ofNat 32 P.val := by
  unfold words
  pointwise []
  rw [hP]
  have hl := P.isLt
  have e2 : (BitVec.ofNat 32 P.val).toInt = (P.val : ℤ) := by
    rw [BitVec.toInt_eq_toNat_of_lt] <;> rw [BitVec.toNat_ofNat] <;> omega
  have e : IntOp.cmpi CmpIPredicate.slt (BitVec.ofNat 32 P.val) 0#32 = 0#1 := by
    show BitVec.ofBool (decide ((BitVec.ofNat 32 P.val).toInt < (0#32 : BitVec 32).toInt)) = _
    rw [e2]
    have : ¬ ((P.val : ℤ) < (0#32 : BitVec 32).toInt) := by simp
    rw [decide_eq_false this]; rfl
  rw [e]; rfl

/-- The page in a slot whose entry names a page of the pool. -/
theorem pages_apply (K : FVec Ideal S2048x16x8x128 .f32) (bt : IVec S8x512 32) (b : Fin 8) (s : Fin 512) (u : Fin 16) (h : Fin 8) (d : Fin 128)
    (P : Fin 2048) (hP : bt (ix2 b s) = BitVec.ofNat 32 P.val) : pages K bt (ix5 b s u h d) = K (ix4 P u h d) :=
  gather_apply K _ b s u h d P (words_apply bt b s P hP)

/-! ## The reductions over a table's slots and tokens -/

/-- The indices that a reduction over slots and tokens brings to one row. -/
theorem row_fiber (b h : Fin 8) (i : S8x8x1x512x16.Idx) :
    reducesTo_S8x8x1x512x16_S8x8x1_d3_4.drop i = ix3 b h 0 ↔ ∃ k : Fin 512 × Fin 16, (ix5 b h 0 k.1 k.2 : S8x8x1x512x16.Idx) = i := by
  constructor
  · intro e
    refine ⟨(i 3, i 4), ?_⟩
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => rfl
  · rintro ⟨k, rfl⟩
    funext a
    match a with
    | ⟨0, _⟩ => rfl
    | ⟨1, _⟩ => rfl
    | ⟨2, _⟩ => rfl

theorem row_inj (b h : Fin 8) : Function.Injective fun k : Fin 512 × Fin 16 => (ix5 b h 0 k.1 k.2 : S8x8x1x512x16.Idx) :=
  fun _ _ e => Prod.ext (congrFun e 3) (congrFun e 4)

/-- A row's maximum. -/
theorem peaks_apply (Q : FVec Ideal S8x1x8x128 .f32) (K : FVec Ideal S2048x16x8x128 .f32) (bt : IVec S8x512 32) (ln : IVec S8 32) (b h : Fin 8) :
    peaks Q K bt ln (ix3 b h 0) = Finset.univ.fold max ⊥ fun k : Fin 512 × Fin 16 => scores Q K bt ln (ix5 b h 0 k.1 k.2) := by
  unfold peaks
  pointwise []
  rw [Consts.neg_inf]
  exact Finset.fold_filter_eq_fold_of_fiber max _ _ (row_inj b h) (row_fiber b h) _ _

/-- A row's sum. -/
theorem norms_apply (Q : FVec Ideal S8x1x8x128 .f32) (K : FVec Ideal S2048x16x8x128 .f32) (bt : IVec S8x512 32) (ln : IVec S8 32) (b h : Fin 8) :
    norms Q K bt ln (ix3 b h 0) = ∑ k : Fin 512 × Fin 16, expos Q K bt ln (ix5 b h 0 k.1 k.2) := by
  have h0 : Ideal.hostReduceAdd reducesTo_S8x8x1x512x16_S8x8x1_d3_4 (expos Q K bt ln) 0 (ix3 b h 0) = ∑ k : Fin 512 × Fin 16, expos Q K bt ln (ix5 b h 0 k.1 k.2) := by
    unfold Ideal.hostReduceAdd
    rw [zero_add]
    exact Finset.sum_filter_eq_sum_of_fiber _ _ (row_inj b h) (row_fiber b h) _
  rw [← h0]
  unfold norms
  pointwise []

/-! ## The value -/

section Value
variable (Q : FVec Ideal S8x1x8x128 .f32) (K V : FVec Ideal S2048x16x8x128 .f32) (bt : IVec S8x512 32) (ln : IVec S8 32)

/-- The slots below sequence `b`'s length. -/
abbrev live (b : Fin 8) : Fin 512 → Prop := Attention.below (ln (ix1 b)).toInt

variable (q : Fin 8 → Fin 8 → Fin 128 → ℝ) (k : Fin 2048 → Fin 16 → Fin 8 → Fin 128 → ℝ) (page : Fin 8 → Fin 512 → Fin 2048)
  (hq : ∀ b h d, Q (ix4 b 0 h d) = (q b h d : EReal)) (hk : ∀ P u h d, K (ix4 P u h d) = (k P u h d : EReal))
  (hp : ∀ b s, live ln b s → bt (ix2 b s) = BitVec.ofNat 32 (page b s).val)
include hq hk hp

/-- A masked score. -/
theorem scores_apply (b h : Fin 8) (s : Fin 512) (u : Fin 16) :
    scores Q K bt ln (ix5 b h 0 s u) = if live ln b s then ((Attention.score (q b h) (k (page b s) u h) : ℝ) : EReal) else ⊥ := by
  have hs := s.isLt
  have e1 : (BitVec.ofNat 32 s.val).toInt = (s.val : ℤ) := by
    rw [BitVec.toInt_eq_toNat_of_lt] <;> rw [BitVec.toNat_ofNat] <;> omega
  have hm : IntOp.cmpi CmpIPredicate.slt (BitVec.ofNat 32 s.val) (ln (ix1 b)) = BitVec.ofBool (decide (live ln b s)) := by
    show BitVec.ofBool (decide ((BitVec.ofNat 32 s.val).toInt < (ln (ix1 b)).toInt)) = _
    rw [e1]; rfl
  unfold scores liveMask
  pointwise []
  rw [hm]
  by_cases hl : live ln b s
  · rw [if_pos hl, decide_eq_true hl]
    show Ideal.div _ _ = _
    rw [Finset.sum_congr rfl fun d _ => by rw [hq, pages_apply K bt b s u h d (page b s) (hp b s hl), hk, ← EReal.coe_mul], ← Softmax.coe_sum, Consts.dim,
      Ideal.sqrt_coe, if_neg (by norm_num), Ideal.div_coe (by positivity), ← EReal.coe_mul]
    congr 1
    unfold Attention.score
    rw [Finset.sum_mul]
    exact Finset.sum_congr rfl fun d _ => by rw [one_div]; ring
  · rw [if_neg hl, decide_eq_false hl]
    exact Consts.neg_inf

/-- A row's maximum is real: slot 0 is live. -/
theorem peaks_real (hpos : ∀ b, 1 ≤ (ln (ix1 b)).toInt) (b h : Fin 8) : ∃ μ : ℝ, peaks Q K bt ln (ix3 b h 0) = (μ : EReal) := by
  rw [peaks_apply]
  refine Softmax.fold_max_real _ _ (fun i _ => ?_) ⟨(0, 0), Finset.mem_univ _, ?_⟩
  · rw [scores_apply Q K bt ln q k page hq hk hp]
    split
    · exact EReal.coe_ne_top _
    · exact bot_ne_top
  · rw [scores_apply Q K bt ln q k page hq hk hp, if_pos (show live ln b 0 from by have := hpos b; show ((0 : ℕ) : ℤ) < _; omega)]
    exact EReal.coe_ne_bot _

/-- The result: the attention of each row. -/
theorem result_apply (hpos : ∀ b, 1 ≤ (ln (ix1 b)).toInt) (b h : Fin 8) (d : Fin 128) :
    result Q K V bt ln (ix4 b 0 h d)
      = Attention.attend (live ln b) (page b) (fun P u => Attention.score (q b h) (k P u h)) (fun P u => V (ix4 P u h d)) := by
  obtain ⟨μ, hμ⟩ := peaks_real Q K bt ln q k page hq hk hp hpos b h
  have hx : ∀ (s : Fin 512) (u : Fin 16), expos Q K bt ln (ix5 b h 0 s u)
      = Ideal.exp ((if live ln b s then ((Attention.score (q b h) (k (page b s) u h) : ℝ) : EReal) else ⊥) - (μ : EReal)) := fun s u => by
    unfold expos
    pointwise []
    rw [scores_apply Q K bt ln q k page hq hk hp, hμ]
  have hr : result Q K V bt ln (ix4 b 0 h d)
      = ∑ z : Fin 512 × Fin 16, pages V bt (ix5 b z.1 z.2 h d) * Ideal.div (expos Q K bt ln (ix5 b h 0 z.1 z.2)) (norms Q K bt ln (ix3 b h 0)) := by
    unfold result
    pointwise []
    rw [Fintype.sum_prod_type]
  rw [hr, norms_apply]
  simp only [hx]
  have h0 : live ln b 0 := by have := hpos b; show ((0 : ℕ) : ℤ) < _; omega
  rw [Softmax.plain_eq (fun z : Fin 512 × Fin 16 => live ln b z.1) (fun z => Attention.score (q b h) (k (page b z.1) z.2 h)) μ
    (fun z => pages V bt (ix5 b z.1 z.2 h d)) (Attention.sum_pos (live ln b) _ h0)]
  unfold Attention.attend
  refine congrArg (_ * ·) (Finset.sum_congr rfl fun z _ => ?_)
  by_cases hl : live ln b z.1
  · rw [if_pos hl, if_pos hl, pages_apply V bt b z.1 z.2 h d (page b z.1) (hp b z.1 hl)]
  · rw [if_neg hl, if_neg hl]

end Value

end Cert.ReferenceIdeal.Value

end
-- ==== Proof.WellPosed.lean ====
/-
# `WellPosed`: the precondition, read back
-/
module

public import proofs.«01_k».proof.Pre_well_posed_KernelIdeal
public import proofs.«01_k».proof.Proof.Gen.Pre_well_posed_KernelIdeal
public import proofs.«01_k».proof.Proof.Consts
public import proofs.«01_k».proof.Proof.Attention
public import Idealize.ShloMosaic.Lib.ReduceAll
public import Idealize.ShloMosaic.Lib.Pointwise

@[expose] public section

set_option maxRecDepth 16384

noncomputable section

namespace Cert.Pre_well_posed_KernelIdeal

open Idealize.ShloMosaic
open Facts

/-- An extended real whose absolute value is below infinity is a real number. -/
theorem real_of_abs (x : EReal) (h : Ideal.cmp CmpFPredicate.olt (max x (-x)) (Ideal.ofBits .f32 0x7F800000#32) = 1#1) : ∃ r : ℝ, x = (r : EReal) := by
  rw [Consts.pos_inf] at h
  have h1 : max x (-x) < ⊤ := by
    by_contra hn
    rw [Ideal.cmp, decide_eq_false hn] at h
    exact absurd h (by decide)
  have h2 := max_lt_iff.1 h1
  refine ⟨x.toReal, (EReal.coe_toReal h2.1.ne fun hb => ?_).symm⟩
  rw [hb] at h2
  exact absurd h2.2 (by simp)

instance : Subsingleton S_.Idx := ⟨fun a b => funext fun i => i.elim0⟩

variable [Facts]

/-- What the precondition says of one device's arrays. -/
theorem read (Q : FVec Ideal S8x1x8x128 .f32) (K V : FVec Ideal S512x16x8x128 .f32) (bt : IVec S8x512 32) (ln : IVec S8 32)
    (hpre : fn (F := Ideal) Q K V bt ln = fun _ => 1#1) :
    (∀ b s, Attention.below (ln (ix1 b)).toInt s → 0 ≤ (bt (ix2 b s)).toInt ∧ (bt (ix2 b s)).toInt < 2048)
      ∧ (∀ b, 1 ≤ (ln (ix1 b)).toInt) ∧ (∀ i, ∃ r : ℝ, Q i = (r : EReal)) ∧ ∀ i, ∃ r : ℝ, K i = (r : EReal) := by
  have h0 := congrFun hpre ix0
  simp only [fn, fn_part1] at h0
  obtain ⟨h12, h34⟩ := IntOp.andi_eq_one.1 h0
  obtain ⟨h1, h2⟩ := IntOp.andi_eq_one.1 h12
  obtain ⟨h3, h4⟩ := IntOp.andi_eq_one.1 h34
  refine ⟨fun b s hs => ?_, fun b => ?_, fun i => ?_, fun i => ?_⟩
  · have h := Host.reduce_andi_all _ _ _ _ _ h1 (ix2 b s)
    unfold fn_where at h
    pointwise [] at h
    have hl := s.isLt
    have e1 : (BitVec.ofNat 32 s.val).toInt = (s.val : ℤ) := by
      rw [BitVec.toInt_eq_toNat_of_lt] <;> rw [BitVec.toNat_ofNat] <;> omega
    have e2 : IntOp.cmpi CmpIPredicate.slt (BitVec.ofNat 32 s.val) (ln (ix1 b)) = 1#1 := IntOp.cmpi_slt.2 (by rw [e1]; exact hs)
    rw [e2] at h
    obtain ⟨ha, hb⟩ := IntOp.andi_eq_one.1 h
    exact ⟨IntOp.cmpi_sge.1 ha, IntOp.cmpi_slt.1 hb⟩
  · exact IntOp.cmpi_sge.1 (Host.reduce_andi_all _ _ _ _ _ h2 (ix1 b))
  · exact real_of_abs _ (Host.reduce_andi_all _ _ _ _ _ h3 i)
  · exact real_of_abs _ (Host.reduce_andi_all _ _ _ _ _ h4 i)

end Cert.Pre_well_posed_KernelIdeal

end
-- ==== Proof.Algebraic.lean ====
/-
# `Algebraic`: the kernel computes what the reference computes
-/
module

public import proofs.«01_k».proof.Defs
public import proofs.«01_k».proof.Proof.OutValue
public import proofs.«01_k».proof.Proof.RefValue
public import proofs.«01_k».proof.Proof.WellPosed

@[expose] public section

set_option maxRecDepth 16384

noncomputable section

namespace Cert.Proof.Algebraic

open Idealize.ShloMosaic Idealize.ShloMosaic.TcCoe Idealize.SL.Sem
open Cert.KernelIdeal.Ring (place devAt)

/-- The pool, 2048 pages of 16 tokens, 8 heads and 128 features. -/
abbrev Pool : Type := (⟨4, ![2048, 16, 8, 128]⟩ : Shape).Idx → EReal

/-- A device's place on the middle axis numbers its block. -/
theorem lin_eq (c : Dev Cert.KernelIdeal.nD) : Layout.meshLin [2, 4, 4] c.val [1] = (place c).val := by revert c; decide +kernel

/-- A device's block of the pool: the 512 pages that its place on the middle axis names. -/
theorem block_apply (A : Pool) (c : Dev Cert.KernelIdeal.nD) (P : Fin 2048) (p : Fin 512) (hP : P.val = p.val + (place c).val * 512) (u : Fin 16) (h : Fin 8) (d : Fin 128) :
    (Layout.blockN ⟨4, ![512, 16, 8, 128]⟩ ⟨4, ![2048, 16, 8, 128]⟩ (Layout.meshBlock [2, 4, 4] ![[1], [], [], []] c) A) (ix4 p u h d) = A (ix4 P u h d) := by
  refine congrArg A (funext fun a => Fin.ext ?_)
  have hm := lin_eq c
  match a with
  | ⟨0, _⟩ =>
    show Layout.meshLin [2, 4, 4] c.val [1] * 512 + p.val = P.val
    rw [hm]; omega
  | ⟨1, _⟩ => show 0 * 16 + u.val = u.val; omega
  | ⟨2, _⟩ => show 0 * 8 + h.val = h.val; omega
  | ⟨3, _⟩ => show 0 * 128 + d.val = d.val; omega

/-- A device whose place is `y`. -/
def holder (y : Fin 4) : Dev Cert.KernelIdeal.nD := devAt ⟨0, by decide⟩ y
theorem place_holder (y : Fin 4) : place (holder y) = y := Cert.KernelIdeal.Ring.place_devAt _ y

/-- A word that is a page of the pool is the number that it is. -/
theorem word_eq (w : BitVec 32) (h0 : 0 ≤ w.toInt) (h1 : w.toInt < 2048) : w = BitVec.ofNat 32 (w.toNat % 2048) := by
  have hlt := w.isLt
  rw [BitVec.toInt_eq_toNat_cond] at h0 h1
  apply BitVec.eq_of_toNat_eq
  rw [BitVec.toNat_ofNat]
  split at h0 <;> split at h1 <;> omega

/-- On every input that the precondition admits, every device's result array ends equal to the reference's result. -/
theorem algebraic : Cert.algebraic_KernelIdeal_ReferenceIdeal_pre_well_posed_KernelIdeal := by
  intro m g m' g' hpre hin
  have hread := fun c => Cert.Pre_well_posed_KernelIdeal.read _ _ _ _ _ (hpre c)
  refine ⟨Cert.ReferenceIdeal.Value.res_out0 m' 0, (θ_run Cert.KernelIdeal.defs _ _).mono (fun r h c => ?_) (Cert.KernelIdeal.Ring.run_out (F := Ideal) m g),
    (θ_run Cert.ReferenceIdeal.defs _ _).mono (fun r h => h 0) (Cert.ReferenceIdeal.Value.run (F := Ideal) m' g')⟩
  refine ⟨(h c).1.trans ?_, (h c).2⟩
  -- the reference's arrays
  obtain ⟨Q, hQ⟩ : ∃ Q : (⟨4, ![8, 1, 8, 128]⟩ : Shape).Idx → EReal, Q = m' (((0 : Dev Cert.ReferenceIdeal.nD).tc : Thread Cert.ReferenceIdeal.nD Cert.ReferenceIdeal.τ).loc Cert.ReferenceIdeal.main_arg0) := ⟨_, rfl⟩
  obtain ⟨K, hK⟩ : ∃ K : Pool, K = m' (((0 : Dev Cert.ReferenceIdeal.nD).tc : Thread Cert.ReferenceIdeal.nD Cert.ReferenceIdeal.τ).loc Cert.ReferenceIdeal.main_arg1) := ⟨_, rfl⟩
  obtain ⟨V, hV⟩ : ∃ V : Pool, V = m' (((0 : Dev Cert.ReferenceIdeal.nD).tc : Thread Cert.ReferenceIdeal.nD Cert.ReferenceIdeal.τ).loc Cert.ReferenceIdeal.main_arg2) := ⟨_, rfl⟩
  obtain ⟨bt, hbt⟩ : ∃ bt : (⟨2, ![8, 512]⟩ : Shape).Idx → BitVec 32, bt = m' (((0 : Dev Cert.ReferenceIdeal.nD).tc : Thread Cert.ReferenceIdeal.nD Cert.ReferenceIdeal.τ).loc Cert.ReferenceIdeal.main_arg3) := ⟨_, rfl⟩
  obtain ⟨ln, hln⟩ : ∃ ln : (⟨1, ![8]⟩ : Shape).Idx → BitVec 32, ln = m' (((0 : Dev Cert.ReferenceIdeal.nD).tc : Thread Cert.ReferenceIdeal.nD Cert.ReferenceIdeal.τ).loc Cert.ReferenceIdeal.main_arg4) := ⟨_, rfl⟩
  have h0 := fun c => (hin c).1.trans hQ.symm
  have h1 := fun c => (hin c).2.1
  have h2 := fun c => (hin c).2.2.1
  have h3 := fun c => (hin c).2.2.2.1.trans hbt.symm
  have h4 := fun c => (hin c).2.2.2.2.trans hln.symm
  rw [← hK] at h1
  rw [← hV] at h2
  -- the precondition, of these arrays
  have hrange : ∀ b s, Attention.below (ln (ix1 b)).toInt s → 0 ≤ (bt (ix2 b s)).toInt ∧ (bt (ix2 b s)).toInt < 2048 := by
    have := (hread c).1
    rw [h3, h4] at this
    exact this
  have hpos : ∀ b, 1 ≤ (ln (ix1 b)).toInt := by
    have := (hread c).2.1
    rw [h4] at this
    exact this
  have hQr : ∀ i, ∃ r : ℝ, Q i = (r : EReal) := by
    have := (hread c).2.2.1
    rw [h0] at this
    exact this
  have hKr : ∀ (P : Fin 2048) (u : Fin 16) (h : Fin 8) (d : Fin 128), ∃ r : ℝ, K (ix4 P u h d) = (r : EReal) := fun P u h d => by
    have := (hread (holder ⟨P.val / 512, by omega⟩)).2.2.2
    rw [h1] at this
    obtain ⟨r, hr⟩ := this (ix4 ⟨P.val % 512, by omega⟩ u h d)
    rw [block_apply K _ P ⟨P.val % 512, by omega⟩ (by rw [place_holder]; show P.val = P.val % 512 + P.val / 512 * 512; omega)] at hr
    exact ⟨r, hr⟩
  choose q hq using hQr
  choose k hk using hKr
  obtain ⟨page, hp⟩ : ∃ page : Fin 8 → Fin 512 → Fin 2048, ∀ b s, Attention.below (ln (ix1 b)).toInt s → bt (ix2 b s) = BitVec.ofNat 32 (page b s).val :=
    ⟨fun b s => ⟨(bt (ix2 b s)).toNat % 2048, Nat.mod_lt _ (by decide)⟩, fun b s hs => word_eq _ (hrange b s hs).1 (hrange b s hs).2⟩
  have href : ∀ (b h : Fin 8) (d : Fin 128), Cert.ReferenceIdeal.Value.result Q K V bt ln (ix4 b 0 h d) = _ := fun b h d =>
    Cert.ReferenceIdeal.Value.result_apply Q K V bt ln (fun b h d => q (ix4 b 0 h d)) k page (fun b h d => hq _) hk hp hpos b h d
  have hker := fun (b h : Fin 8) (d : Fin 128) => Cert.KernelIdeal.Ring.out_apply m g (fun b h d => q (ix4 b 0 h d)) k (fun P u h d => V (ix4 P u h d)) page bt ln h3 h4
    (fun c b h d => by rw [h0]; exact hq _)
    (fun c t h d => by rw [h1]; exact (block_apply K c (Attention.pageAt (place c) t) (Attention.ownPage t) rfl (Attention.tokenAt t) h d).trans (hk _ _ _ _))
    (fun c t h d => by rw [h2]; exact block_apply V c (Attention.pageAt (place c) t) (Attention.ownPage t) rfl (Attention.tokenAt t) h d)
    hp hpos c b h d
  rw [Cert.ReferenceIdeal.Value.out_eq, ← hQ, ← hK, ← hV, ← hbt, ← hln]
  funext i
  have hi : i = ix4 (i 0) 0 (i 2) (i 3) := by
    funext a
    match a with
    | ⟨0, _⟩ => rfl
    | ⟨1, _⟩ => exact Fin.ext (by have := (i 1).isLt; change (i 1).val < 1 at this; show (i 1).val = 0; omega)
    | ⟨2, _⟩ => rfl
    | ⟨3, _⟩ => rfl
  rw [hi]
  exact (hker (i 0) (i 2) (i 3)).trans (href (i 0) (i 2) (i 3)).symm

end Cert.Proof.Algebraic

end
-- ==== Proof.lean ====
/-
# The proof of the certificate's claims
-/
module

public import proofs.«01_k».proof.Defs
public import proofs.«01_k».proof.Proof.Frames
public import proofs.«01_k».proof.Proof.Algebraic
public import proofs.«01_k».proof.Proof.Gen.Pre_well_posed_KernelIdeal
public import proofs.«01_k».proof.Proof.Gen.Pre_well_posed_ReferenceIdeal

@[expose] public section

noncomputable section

namespace Cert.Proof

open Idealize.ShloMosaic Idealize.SL.Sem

/-- All claims together. -/
theorem claim : Cert.Claim :=
  ⟨Cert.Kernel.Gen.facts, Cert.KernelIdeal.Gen.facts, Cert.ReferenceIdeal.Gen.facts,
    Cert.Pre_well_posed_KernelIdeal.Gen.facts, Cert.Pre_well_posed_ReferenceIdeal.Gen.facts,
    Frames.frame_p, Frames.frame_pi, fun m g _ => Cert.KernelIdeal.Ring.run_args m g,
    Frames.frame_ri, fun m g _ => Frames.run_ref m g, Frames.preserves, Algebraic.algebraic⟩

end Cert.Proof

end
